-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![512, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S512x512 : Shape := ⟨2, ![512, 512]⟩
abbrev S3x128x512 : Shape := ⟨3, ![3, 128, 512]⟩
abbrev S128x512 : Shape := ⟨2, ![128, 512]⟩
abbrev S3 : Shape := ⟨1, ![3]⟩
abbrev S_ : Shape := ⟨0, ![]⟩
abbrev S1 : Shape := ⟨1, ![1]⟩
abbrev S1x128x512 : Shape := ⟨3, ![1, 128, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S512x512, .f32⟩
  | .local _ .vmem, ⟨0, _⟩ => ⟨S512x2048, .bf16⟩
  | .local _ .vmem, ⟨1, _⟩ => ⟨S512x2048, .bf16⟩
  | .local _ .vmem, ⟨2, _⟩ => ⟨S512x512, .f32⟩
  | .local _ .vmem, ⟨3, _⟩ => ⟨S512x512, .bf16⟩
  | .local _ .vmem, ⟨4, _⟩ => ⟨S3x128x512, .bf16⟩
  | .local _ .vmem, ⟨5, _⟩ => ⟨S128x512, .bf16⟩
  | .local _ .vmem, ⟨6, _⟩ => ⟨S3x128x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_18 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c2_i32_18
  let c4_i32_19 : BitVec 32 := 4#32
  let v26 : BitVec 32 := Scalar.remsi v25 c4_i32_19
  let c128_i32 : BitVec 32 := 128#32
  let v27 : BitVec 32 := Scalar.muli v26 c128_i32
  let c0_i32_27 : BitVec 32 := 0#32
  ![v27.toNat, 0]
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_18 : BitVec 32 := 2#32
  let v25 : BitVec 32 := Scalar.addi v2 c2_i32_18
  let c4_i32_19 : BitVec 32 := 4#32
  let v26 : BitVec 32 := Scalar.remsi v25 c4_i32_19
  let c1_i32_23 : BitVec 32 := 1#32
  let v28 : BitVec 32 := Scalar.muli v26 c1_i32_23
  let v29 : BitVec 32 := Scalar.addi c0_i32_24 v28
  v29.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v37 : BitVec 32 := Scalar.addi v2 c1_i32_28
  let c4_i32_29 : BitVec 32 := 4#32
  let v38 : BitVec 32 := Scalar.remsi v37 c4_i32_29
  let c1_i32_34 : BitVec 32 := 1#32
  let v40 : BitVec 32 := Scalar.muli v38 c1_i32_34
  let v41 : BitVec 32 := Scalar.addi c0_i32_35 v40
  v41.toNat
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_39 : BitVec 32 := 3#32
  let v49 : BitVec 32 := Scalar.addi v2 c3_i32_39
  let c4_i32_40 : BitVec 32 := 4#32
  let v50 : BitVec 32 := Scalar.remsi v49 c4_i32_40
  let c1_i32_45 : BitVec 32 := 1#32
  let v52 : BitVec 32 := Scalar.muli v50 c1_i32_45
  let v53 : BitVec 32 := Scalar.addi c0_i32_46 v52
  v53.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_76 : BitVec 32 := 128#32
  let v83 : BitVec 32 := Scalar.muli v2 c128_i32_76
  let v84 : Index := Scalar.indexCast v83
  let c0_77 : Index := 0#32
  ![v84.toNat, 0]
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_88 : BitVec 32 := 2#32
  let v105 : BitVec 32 := Scalar.addi v2 c2_i32_88
  let c4_i32_89 : BitVec 32 := 4#32
  let v106 : BitVec 32 := Scalar.remsi v105 c4_i32_89
  let c1_i32_93 : BitVec 32 := 1#32
  let v107 : BitVec 32 := Scalar.muli v106 c1_i32_93
  let v108 : BitVec 32 := Scalar.addi c0_i32_94 v107
  v108.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_97 : BitVec 32 := 1#32
  let v115 : BitVec 32 := Scalar.addi v2 c1_i32_97
  let c4_i32_98 : BitVec 32 := 4#32
  let v116 : BitVec 32 := Scalar.remsi v115 c4_i32_98
  let c1_i32_102 : BitVec 32 := 1#32
  let v117 : BitVec 32 := Scalar.muli v116 c1_i32_102
  let v118 : BitVec 32 := Scalar.addi c0_i32_103 v117
  v118.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_106 : BitVec 32 := 3#32
  let v125 : BitVec 32 := Scalar.addi v2 c3_i32_106
  let c4_i32_107 : BitVec 32 := 4#32
  let v126 : BitVec 32 := Scalar.remsi v125 c4_i32_107
  let c1_i32_111 : BitVec 32 := 1#32
  let v127 : BitVec 32 := Scalar.muli v126 c1_i32_111
  let v128 : BitVec 32 := Scalar.addi c0_i32_112 v127
  v128.toNat
def k0_off3 (d0 : Dev nD) (c1_i32_122 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v141 : BitVec 32 := Scalar.addi v2 c1_i32_122
  let c1_i32_123 : BitVec 32 := 1#32
  let v142 : BitVec 32 := Scalar.addi v141 c1_i32_123
  let c4_i32_124 : BitVec 32 := 4#32
  let v143 : BitVec 32 := Scalar.remsi v142 c4_i32_124
  let c128_i32_128 : BitVec 32 := 128#32
  let v147 : BitVec 32 := Scalar.muli v143 c128_i32_128
  let v148 : Index := Scalar.indexCast v147
  let c0_129 : Index := 0#32
  ![v148.toNat, 0]
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x8192 : Shape := ⟨2, ![512, 8192]⟩
abbrev S8192x512 : Shape := ⟨2, ![8192, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S512x8192, .bf16⟩
  | .hbm, ⟨2, _⟩ => ⟨S512x8192, .f32⟩
  | .hbm, ⟨3, _⟩ => ⟨S512x8192, .f32⟩
  | .hbm, ⟨4, _⟩ => ⟨S8192x512, .f32⟩
  | .hbm, ⟨5, _⟩ => ⟨S512x512, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdealGeom.lean ====
/-
The places of the kernel's four-device exchange: which device fills which slot, the slots and row blocks as
memrefs and as element sets, and the split of each scratch buffer into the pieces the exchange moves.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.ValueIdxCore
public import Idealize.ShloMosaic.Lib.Tactic

@[expose] public section

noncomputable section

namespace Cert.KernelIdeal.Ar

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Who fills which slot -/

set_option backward.proofsInPublic true in
/-- The device that fills slot `s` of device `c`. -/
def src (c : Dev nD) (s : Fin 3) : Dev nD := ⟨(c.val + s.val + 1) % 4, Nat.mod_lt _ (by decide)⟩
set_option backward.proofsInPublic true in
/-- The device whose slot `s` device `c` fills. -/
def dst (c : Dev nD) (s : Fin 3) : Dev nD := ⟨(c.val + (3 - s.val)) % 4, Nat.mod_lt _ (by decide)⟩

/-- Filling slot `s` and being filled at slot `s` are inverse maps of the devices. -/
theorem src_dst (c : Dev nD) (s : Fin 3) : src (dst c s) s = c := by revert c s; decide
theorem dst_src (c : Dev nD) (s : Fin 3) : dst (src c s) s = c := by revert c s; decide

/-- The addresses the kernel computes: three signals, three sends of partial products, three sends of sums. -/
theorem dev1_eq (c : Dev nD) : (⟨k0_dev1 c, k0_dev1_lt c⟩ : Dev nD) = src c 0 := Fin.ext ((k0_dev1_eq c).trans (by revert c; decide))
theorem dev2_eq (c : Dev nD) : (⟨k0_dev2 c, k0_dev2_lt c⟩ : Dev nD) = src c 1 := Fin.ext ((k0_dev2_eq c).trans (by revert c; decide))
theorem dev3_eq (c : Dev nD) : (⟨k0_dev3 c, k0_dev3_lt c⟩ : Dev nD) = src c 2 := Fin.ext ((k0_dev3_eq c).trans (by revert c; decide))
theorem dev4_eq (c : Dev nD) : (⟨k0_dev4 c, k0_dev4_lt c⟩ : Dev nD) = dst c 1 := Fin.ext ((k0_dev4_eq c).trans (by revert c; decide))
theorem dev5_eq (c : Dev nD) : (⟨k0_dev5 c, k0_dev5_lt c⟩ : Dev nD) = dst c 2 := Fin.ext ((k0_dev5_eq c).trans (by revert c; decide))
theorem dev6_eq (c : Dev nD) : (⟨k0_dev6 c, k0_dev6_lt c⟩ : Dev nD) = dst c 0 := Fin.ext ((k0_dev6_eq c).trans (by revert c; decide))
theorem dev7_eq (c : Dev nD) : (⟨k0_dev7 c, k0_dev7_lt c⟩ : Dev nD) = dst c 1 := Fin.ext ((k0_dev7_eq c).trans (by revert c; decide))
theorem dev8_eq (c : Dev nD) : (⟨k0_dev8 c, k0_dev8_lt c⟩ : Dev nD) = dst c 2 := Fin.ext ((k0_dev8_eq c).trans (by revert c; decide))
theorem dev9_eq (c : Dev nD) : (⟨k0_dev9 c, k0_dev9_lt c⟩ : Dev nD) = dst c 0 := Fin.ext ((k0_dev9_eq c).trans (by revert c; decide))

/-! ## Slots and row blocks -/

/-- The kernel's buffers as memrefs: the two inputs, the output, the rounded partial product, the three landing
    slots of the reduction, the sum to send, the three landing slots of the gather. -/
abbrev dyM : Memref sig .tc .vmem S512x2048 .bf16 := Memref.whole cc0_stg0_0
abbrev wM : Memref sig .tc .vmem S512x2048 .bf16 := Memref.whole cc0_stg1_0
abbrev outM : Memref sig .tc .vmem S512x512 .f32 := Memref.whole cc0_stg2_0
abbrev ptM : Memref sig .tc .vmem S512x512 .bf16 := Memref.whole cc0_scratch0
abbrev rsM : Memref sig .tc .vmem S3x128x512 .bf16 := Memref.whole cc0_scratch1
abbrev asM : Memref sig .tc .vmem S128x512 .bf16 := Memref.whole cc0_scratch2
abbrev agM : Memref sig .tc .vmem S3x128x512 .bf16 := Memref.whole cc0_scratch3

theorem slot_inb (s : Fin 3) : ∀ a, (![s.val, 0, 0] : Fin 3 → ℕ) a + S1x128x512.size a ≤ S3x128x512.size a := by
  revert s; decide
theorem row_inb (t : Dev nD) : ∀ a, (![128 * t.val, 0] : Fin 2 → ℕ) a + S128x512.size a ≤ S512x512.size a := by
  revert t; decide

/-- The rectangle of slot `s`, and the memref of it at the shape of one row block. -/
abbrev slotR (s : Fin 3) : Rect S3x128x512 := Rect.unit (s := S3x128x512) ![s.val, 0, 0] S1x128x512.size (slot_inb s)
abbrev slotOf (M : Memref sig .tc .vmem S3x128x512 .bf16) (s : Fin 3) : Memref sig .tc .vmem S128x512 .bf16 :=
  (M.slice (slotR s) (fun _ => rfl)).squeeze S128x512 squeezes_S1x128x512_S128x512
/-- The rectangle of the rows of block `t`, and the memref of them in the rounded partial product. -/
abbrev rowR (t : Dev nD) : Rect S512x512 := Rect.unit (s := S512x512) ![128 * t.val, 0] S128x512.size (row_inb t)
abbrev rowOf (t : Dev nD) : Memref sig .tc .vmem S128x512 .bf16 := ptM.slice (rowR t) (fun _ => rfl)

/-- The offsets the kernel computes name row blocks: the block sent to the device whose slot is filled, -/
theorem off1_eq (c : Dev nD) (r : ℕ) (s : Fin 3) (h : k0_off1 c (BitVec.ofNat 32 (1 + r)) = ![128 * ((c.val + r + 1) % 4), 0])
    (hr : r + s.val = 2) : k0_off1 c (BitVec.ofNat 32 (1 + r)) = ![128 * (dst c s).val, 0] := by
  rw [h]; have : (c.val + r + 1) % 4 = (dst c s).val := by show _ = (c.val + (3 - s.val)) % 4; congr 1; omega
  rw [this]
theorem srcM2 (c : Dev nD) : (ptM.slice (Rect.unit (s := S512x512) (k0_off1 c 2#32) S128x512.size (k0_off1_inb c 1)) (fun _ => rfl)) = rowOf (dst c 1) :=
  Memref.slice_unit_congr _ (off1_eq c 1 1 (k0_off1_eq c 1) rfl) _ _ _ _
theorem srcM1 (c : Dev nD) : (ptM.slice (Rect.unit (s := S512x512) (k0_off1 c 1#32) S128x512.size (k0_off1_inb c 0)) (fun _ => rfl)) = rowOf (dst c 2) :=
  Memref.slice_unit_congr _ (off1_eq c 0 2 (k0_off1_eq c 0) rfl) _ _ _ _
theorem srcM3 (c : Dev nD) : (ptM.slice (Rect.unit (s := S512x512) (k0_off1 c 3#32) S128x512.size (k0_off1_inb c 2)) (fun _ => rfl)) = rowOf (dst c 0) :=
  Memref.slice_unit_congr _ (off1_eq c 2 0 (k0_off1_eq c 2) rfl) _ _ _ _
/-- the device's own block, -/
theorem own_eq (c : Dev nD) : Rect.unit (s := S512x512) (k0_off2 c) S128x512.size (k0_off2_inb c) = rowR c :=
  Rect.unit_congr (k0_off2_eq c) _ _
/-- and the block of the device that fills slot `s`. -/
theorem from_eq0 (c : Dev nD) : Rect.unit (s := S512x512) (k0_off3 c 0#32) S128x512.size (k0_off3_inb c 0) = rowR (src c 0) :=
  Rect.unit_congr (k0_off3_eq c 0) _ _
theorem from_eq1 (c : Dev nD) : Rect.unit (s := S512x512) (k0_off3 c 1#32) S128x512.size (k0_off3_inb c 1) = rowR (src c 1) :=
  Rect.unit_congr (k0_off3_eq c 1) _ _
theorem from_eq2 (c : Dev nD) : Rect.unit (s := S512x512) (k0_off3 c 2#32) S128x512.size (k0_off3_inb c 2) = rowR (src c 2) :=
  Rect.unit_congr (k0_off3_eq c 2) _ _

/-- Index `x` of a slot is index `(s, x)` of the slots' buffer. -/
theorem slotR_emb (s : Fin 3) (x : S128x512.Idx) :
    (slotR s).emb (Shape.reshapeEquiv squeezes_S1x128x512_S128x512.numel_eq x) = ix3 s (x 0) (x 1) := by
  rw [show Shape.reshapeEquiv squeezes_S1x128x512_S128x512.numel_eq x = Fin.cons ⟨0, Nat.one_pos⟩ x from
    Shape.reshapeEquiv_cons_one (n := 2) (d := ![128, 512]) _ x]
  funext a
  fin_cases a <;> refine Fin.ext ?_
  · show s.val + 1 * 0 = s.val
    omega
  · show 0 + 1 * (x 0).val = (x 0).val
    omega
  · show 0 + 1 * (x 1).val = (x 1).val
    omega

theorem slot_set_rs (s : Fin 3) : (slotOf rsM s).view.set = (slotR s).set :=
  (View.set_reshape _ _).trans (View.set_slice_whole cc0_scratch1 (slotR s))
theorem slot_set_ag (s : Fin 3) : (slotOf agM s).view.set = (slotR s).set :=
  (View.set_reshape _ _).trans (View.set_slice_whole cc0_scratch3 (slotR s))
theorem row_set (t : Dev nD) : (rowOf t).view.set = (rowR t).set :=
  View.set_slice_whole cc0_scratch0 (rowR t)

theorem slot_disj (s s' : Fin 3) (h : s ≠ s') : Disjoint (slotR s).set (slotR s').set :=
  Rect.unit_disjoint 0 (by
    have : s.val ≠ s'.val := fun e => h (Fin.ext e)
    show s.val + 1 ≤ s'.val ∨ s'.val + 1 ≤ s.val
    omega)
theorem slot_cover : Finset.univ.biUnion (fun s : Fin 3 => (slotR s).set) = Finset.univ := by
  refine Finset.eq_univ_iff_forall.mpr fun i => Finset.mem_biUnion.mpr ⟨i 0, Finset.mem_univ _, Rect.mem_set_unit.mpr fun a => ?_⟩
  have h1 := (i 1).isLt
  have h2 := (i 2).isLt
  fin_cases a
  · exact ⟨le_refl _, Nat.lt_succ_self _⟩
  · exact ⟨Nat.zero_le _, by simpa using h1⟩
  · exact ⟨Nat.zero_le _, by simpa using h2⟩
theorem row_disj (t t' : Dev nD) (h : t ≠ t') : Disjoint (rowR t).set (rowR t').set :=
  Rect.unit_disjoint 0 (by
    have : t.val ≠ t'.val := fun e => h (Fin.ext e)
    show 128 * t.val + 128 ≤ 128 * t'.val ∨ 128 * t'.val + 128 ≤ 128 * t.val
    omega)
theorem row_cover : Finset.univ.biUnion (fun t : Dev nD => (rowR t).set) = Finset.univ := by
  refine Finset.eq_univ_iff_forall.mpr fun i => ?_
  have h0 : (i 0).val < 512 := (i 0).isLt
  have h1 : (i 1).val < 512 := (i 1).isLt
  refine Finset.mem_biUnion.mpr ⟨⟨(i 0).val / 128, by show _ < 4; omega⟩, Finset.mem_univ _, Rect.mem_set_unit.mpr fun a => ?_⟩
  fin_cases a
  · show 128 * ((i 0).val / 128) ≤ (i 0).val ∧ (i 0).val < 128 * ((i 0).val / 128) + 128
    omega
  · exact ⟨Nat.zero_le _, by simpa using h1⟩

end Cert.KernelIdeal.Ar

end
-- ==== Proof.KernelIdealProto.lean ====
/-
The protocol of the kernel's exchange: what every buffer holds when it has been filled, the pieces that change
hands, the schedule of the barrier and of the twelve transfer semaphores, what each device owes at
launch, and why no wait can block another for ever.
-/
module

public import proofs.«01_k».proof.Proof.KernelIdealGeom
public import proofs.«01_k».proof.Proof.Gen.KernelIdeal.Skeleton
public import proofs.«01_k».proof.Proof.Gen.KernelIdeal.Points

@[expose] public section

noncomputable section

namespace Cert.KernelIdeal.Ar

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the pipeline's own and the exchange's, whose duties at a semaphore are numbered 0, 1, 2. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- The two operands a device stages. -/
def dyB (c : Dev nD) : (cc0_stg0_0 : Ref sig .tc).ty.Contents (Elt F) :=
  (win0_0.blk (0 : Fin 1)).view.read (Elt F) ((s₀ m ρ).mem ((c : Thread nD τ).loc main_arg0))
def wB (c : Dev nD) : (cc0_stg1_0 : Ref sig .tc).ty.Contents (Elt F) :=
  (win0_1.blk (0 : Fin 1)).view.read (Elt F) ((s₀ m ρ).mem ((c : Thread nD τ).loc main_arg1))
/-- The device's partial product, and its rounded copy. -/
def prod (c : Dev nD) : (cc0_stg2_0 : Ref sig .tc).ty.Contents (Elt F) := k0_pay1 (dyB m ρ c) (wB m ρ c)
def part (c : Dev nD) : (cc0_scratch0 : Ref sig .tc).ty.Contents (Elt F) := k0_pay2 (dyB m ρ c) (wB m ρ c)
/-- The landing slots of the reduction, filled: slot `s` has the rows of block `c` of the partial product of the
    device that fills it. -/
def rsBuf (c : Dev nD) : (cc0_scratch1 : Ref sig .tc).ty.Contents (Elt F) :=
  fun i : S3x128x512.Idx => part m ρ (src c (i 0)) ((rowR c).emb (ix2 (i 1) (i 2)))
/-- Slot `s` of a buffer of three slots, as the kernel loads it. -/
abbrev rsSlotV (f : (cc0_scratch1 : Ref sig .tc).ty.Contents (Elt F)) (s : Fin 3) : Vec F S1x128x512 .bf16 :=
  (rsM : Memref sig .tc .vmem S3x128x512 .bf16).view.readAt (Elt F) (slotR s).toLoadRect f
abbrev agSlotV (f : (cc0_scratch3 : Ref sig .tc).ty.Contents (Elt F)) (s : Fin 3) : Vec F S1x128x512 .bf16 :=
  (agM : Memref sig .tc .vmem S3x128x512 .bf16).view.readAt (Elt F) (slotR s).toLoadRect f
/-- The rows of block `t` of a 512 × 512 array, as the kernel loads them. -/
abbrev rowV (f : (cc0_stg2_0 : Ref sig .tc).ty.Contents (Elt F)) (t : Dev nD) : Vec F S128x512 .f32 :=
  (outM : Memref sig .tc .vmem S512x512 .f32).view.readAt (Elt F) (rowR t).toLoadRect f
/-- The device's summed block, and its rounded copy to send. -/
def acc (c : Dev nD) : Vec F S128x512 .f32 :=
  k0_pay3 (rowV (prod m ρ c) c) (rsSlotV (rsBuf m ρ c) 0) (rsSlotV (rsBuf m ρ c) 1) (rsSlotV (rsBuf m ρ c) 2)
def agSend (c : Dev nD) : (cc0_scratch2 : Ref sig .tc).ty.Contents (Elt F) :=
  k0_pay4 (rowV (prod m ρ c) c) (rsSlotV (rsBuf m ρ c) 0) (rsSlotV (rsBuf m ρ c) 1) (rsSlotV (rsBuf m ρ c) 2)
/-- The landing slots of the gather, filled: slot `s` has the summed block of the device that fills it. -/
def agBuf (c : Dev nD) : (cc0_scratch3 : Ref sig .tc).ty.Contents (Elt F) :=
  fun i : S3x128x512.Idx => agSend m ρ (src c (i 0)) (ix2 (i 1) (i 2))
/-- A 512 × 512 array with the rows of block `t` replaced. -/
abbrev putRow (f : (cc0_stg2_0 : Ref sig .tc).ty.Contents (Elt F)) (t : Dev nD) (v : Vec F S128x512 .f32) :
    (cc0_stg2_0 : Ref sig .tc).ty.Contents (Elt F) :=
  ((outM : Memref sig .tc .vmem S512x512 .f32).access (rowR t) : View sig .tc _ _ _).write (Elt F) f v Finset.univ
/-- The kernel's result on device `c`: its partial product, its own block replaced by the sum, each other block by
    the one gathered from its device. -/
def outAt (c : Dev nD) : (cc0_stg2_0 : Ref sig .tc).ty.Contents (Elt F) :=
  putRow (putRow (putRow (putRow (prod m ρ c) c (acc m ρ c)) (src c 1) (k0_pay5 (agSlotV (agBuf m ρ c) 1)))
    (src c 2) (k0_pay6 (agSlotV (agBuf m ρ c) 2))) (src c 0) (k0_pay7 (agSlotV (agBuf m ρ c) 0))

/-! ## The pieces that change hands -/

def rsPts (c : Dev nD) (s : Fin 3) (f : (cc0_scratch1 : Ref sig .tc).ty.Contents (Elt F)) : sProp 𝕄 :=
  (slotOf rsM s).view.loc (c : Thread nD τ) ↦[(slotOf rsM s).view.set]{fullShare} f
def agPts (c : Dev nD) (s : Fin 3) (f : (cc0_scratch3 : Ref sig .tc).ty.Contents (Elt F)) : sProp 𝕄 :=
  (slotOf agM s).view.loc (c : Thread nD τ) ↦[(slotOf agM s).view.set]{fullShare} f
def ptPts (c : Dev nD) (t : Dev nD) (f : (cc0_scratch0 : Ref sig .tc).ty.Contents (Elt F)) : sProp 𝕄 :=
  (rowOf t).view.loc (c : Thread nD τ) ↦[(rowOf t).view.set]{fullShare} f
def asPts (c : Dev nD) (q : PosShare TreeShare) (f : (cc0_scratch2 : Ref sig .tc).ty.Contents (Elt F)) : sProp 𝕄 :=
  (asM : Memref sig .tc .vmem S128x512 .bf16).view.loc (c : Thread nD τ) ↦[(asM : Memref sig .tc .vmem S128x512 .bf16).view.set]{q} f

omit [FloatOps F] in
instance rsPts_storable (c : Dev nD) (s) (f) : BI.Storable (upEmb : UEmb _ 𝕄) (rsPts (F := F) c s f) := by unfold rsPts; infer_instance
omit [FloatOps F] in
instance agPts_storable (c : Dev nD) (s) (f) : BI.Storable (upEmb : UEmb _ 𝕄) (agPts (F := F) c s f) := by unfold agPts; infer_instance
omit [FloatOps F] in
instance ptPts_storable (c : Dev nD) (t) (f) : BI.Storable (upEmb : UEmb _ 𝕄) (ptPts (F := F) c t f) := by unfold ptPts; infer_instance
omit [FloatOps F] in
instance asPts_storable (c : Dev nD) (q) (f) : BI.Storable (upEmb : UEmb _ 𝕄) (asPts (F := F) c q f) := by unfold asPts; infer_instance

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- A buffer of three slots is its slots, -/
theorem rs_split (c : Dev nD) (f : (cc0_scratch1 : Ref sig .tc).ty.Contents (Elt F)) :
    (((c : Thread nD τ).loc cc0_scratch1) ↦{fullShare} f : sProp 𝕄) = iprop(rsPts c 0 f ∗ rsPts c 1 f ∗ rsPts c 2 f) := by
  refine (Ring.pointsTo_blocks (ℓ := (c : Thread nD τ).loc cc0_scratch1) (fun s : Fin 3 => (slotR s).set) slot_disj slot_cover f).trans ?_
  rw [bigSep_fin3]
  unfold rsPts; rw [slot_set_rs, slot_set_rs, slot_set_rs]
omit [FloatOps F] in
theorem ag_split (c : Dev nD) (f : (cc0_scratch3 : Ref sig .tc).ty.Contents (Elt F)) :
    (((c : Thread nD τ).loc cc0_scratch3) ↦{fullShare} f : sProp 𝕄) = iprop(agPts c 0 f ∗ agPts c 1 f ∗ agPts c 2 f) := by
  refine (Ring.pointsTo_blocks (ℓ := (c : Thread nD τ).loc cc0_scratch3) (fun s : Fin 3 => (slotR s).set) slot_disj slot_cover f).trans ?_
  rw [bigSep_fin3]
  unfold agPts; rw [slot_set_ag, slot_set_ag, slot_set_ag]
omit [FloatOps F] in
/-- the rounded partial product its own block and the three it sends, -/
theorem pt_split (c : Dev nD) (f : (cc0_scratch0 : Ref sig .tc).ty.Contents (Elt F)) :
    (((c : Thread nD τ).loc cc0_scratch0) ↦{fullShare} f : sProp 𝕄)
      = iprop(ptPts c c f ∗ ptPts c (dst c 0) f ∗ ptPts c (dst c 1) f ∗ ptPts c (dst c 2) f) := by
  refine (Ring.pointsTo_blocks (ℓ := (c : Thread nD τ).loc cc0_scratch0) (fun t : Dev nD => (rowR t).set) row_disj row_cover f).trans ?_
  rw [
    bigSep_univ_eq_bigSepL [c, dst c 0, dst c 1, dst c 2] (by revert c; decide) (by revert c; decide)]
  unfold ptPts; rw [row_set, row_set, row_set, row_set]; rfl
omit [FloatOps F] in
/-- and the block to send three shares of itself. -/
theorem as_split (c : Dev nD) (f : (cc0_scratch2 : Ref sig .tc).ty.Contents (Elt F)) :
    (((c : Thread nD τ).loc cc0_scratch2) ↦{fullShare} f : sProp 𝕄)
      ⊣⊢ iprop(asPts c (Ring.shares3 fullShare 0) f ∗ asPts c (Ring.shares3 fullShare 1) f ∗ asPts c (Ring.shares3 fullShare 2) f) := by
  have hs : (asM : Memref sig .tc .vmem S128x512 .bf16).view.set = Finset.univ := View.set_whole _
  unfold asPts; rw [hs]
  exact Ring.pointsTo_thirds _ _

/-- The rows of block `d` of device `c`'s rounded partial product, landed in the slot of `d` that `c` fills, are what
    the protocol says that slot holds. -/
theorem rs_land (c : Dev nD) (s : Fin 3) (fd : (cc0_scratch1 : Ref sig .tc).ty.Contents (Elt F)) :
    ((slotOf rsM s).view.loc (dst c s : Thread nD τ) ↦[(slotOf rsM s).view.set]{fullShare}
        (slotOf rsM s).view.write (Elt F) fd ((rowOf (dst c s)).view.read (Elt F) (part m ρ c)) Finset.univ : sProp 𝕄)
      ⊢ rsPts (dst c s) s (rsBuf m ρ (dst c s)) := by
  unfold rsPts
  refine Entails.of_eq (pointsTo_congr fun i hi => ?_)
  obtain ⟨x, -, rfl⟩ := Finset.mem_map.mp hi
  rw [View.write_emb_of_mem _ _ (Finset.mem_univ x), View.read_apply]
  have he : (slotOf rsM s).view.emb x = ix3 s (x 0) (x 1) := slotR_emb s x
  rw [he]
  show _ = part m ρ (src (dst c s) s) ((rowR (dst c s)).emb (ix2 (x 0) (x 1)))
  rw [src_dst]
  exact congrArg (fun y : S128x512.Idx => part m ρ c ((rowR (dst c s)).emb y)) (eq_ix2 (n0 := 128) (n1 := 512) x)
theorem ag_land (c : Dev nD) (s : Fin 3) (fd : (cc0_scratch3 : Ref sig .tc).ty.Contents (Elt F)) :
    ((slotOf agM s).view.loc (dst c s : Thread nD τ) ↦[(slotOf agM s).view.set]{fullShare}
        (slotOf agM s).view.write (Elt F) fd ((asM : Memref sig .tc .vmem S128x512 .bf16).view.read (Elt F) (agSend m ρ c)) Finset.univ : sProp 𝕄)
      ⊢ agPts (dst c s) s (agBuf m ρ (dst c s)) := by
  unfold agPts
  refine Entails.of_eq (pointsTo_congr fun i hi => ?_)
  obtain ⟨x, -, rfl⟩ := Finset.mem_map.mp hi
  rw [View.write_emb_of_mem _ _ (Finset.mem_univ x), View.read_apply]
  have he : (slotOf agM s).view.emb x = ix3 s (x 0) (x 1) := slotR_emb s x
  rw [he]
  show _ = agSend m ρ (src (dst c s) s) (ix2 (x 0) (x 1))
  rw [src_dst]
  exact congrArg (fun y : S128x512.Idx => agSend m ρ c y) (eq_ix2 (n0 := 128) (n1 := 512) x)

/-! ## The semaphores -/

/-- The barrier semaphore, and the twelve transfer semaphores: three senders' and three receivers' of each exchange. -/
abbrev barS : Sem sig := (SemArray.scalar (sig.barrier 0 rfl) : Sems sig S_).sem
set_option backward.proofsInPublic true in
abbrev osem (j : Fin 12) : SemLoc sig := .dma ⟨j.val + 3, by have := j.2; show _ < 15; omega⟩
abbrev csem (k : Fin 13) : SemLoc sig := Fin.cases (.reg barS) osem k
abbrev kcell (ck : Dev nD × Fin 13) : GSem nD τ sig := ((ck.1 : Thread nD τ), csem ck.2)
abbrev barCell (c : Dev nD) : GSem nD τ sig := ((c : Thread nD τ), .reg barS)
abbrev dcell (c : Dev nD) (j : Fin 12) : GSem nD τ sig := ((c : Thread nD τ), osem j)

set_option backward.proofsInPublic true in
/-- Which of the twelve: the sender's and the receiver's semaphore for slot `s`, of the reduction and of the gather. -/
abbrev rsS (s : Fin 3) : Fin 12 := ⟨2 - s.val, by omega⟩
set_option backward.proofsInPublic true in
abbrev rsR (s : Fin 3) : Fin 12 := ⟨3 + s.val, by omega⟩
set_option backward.proofsInPublic true in
abbrev agS (s : Fin 3) : Fin 12 := ⟨8 - s.val, by omega⟩
set_option backward.proofsInPublic true in
abbrev agR (s : Fin 3) : Fin 12 := ⟨9 + s.val, by omega⟩

theorem kcell_zero (c : Dev nD) : kcell (c, 0) = barCell c := rfl
theorem kcell_succ (c : Dev nD) (j : Fin 12) : kcell (c, j.succ) = dcell c j := rfl

/-- The credit of one transferred block. -/
def N : ℕ := (asM : Memref sig .tc .vmem S128x512 .bf16).view.dmaCredit
theorem N_pos : 0 < N := View.dmaCredit_pos _ (by decide)
theorem credit_rs (s : Fin 3) : (slotOf rsM s).view.dmaCredit = N := rfl
theorem credit_ag (s : Fin 3) : (slotOf agM s).view.dmaCredit = N := rfl
theorem credit_pt (t : Dev nD) : (rowOf t).view.dmaCredit = N := rfl

/-! ## The schedule -/

/-- What the signal numbered `s` hands device `d`: the two slots it is to fill, at the device they lie on. -/
def barPay (d : Dev nD) (s : Fin 3) : sProp 𝕄 := iprop((∃ f, rsPts (dst d s) s f) ∗ (∃ f, agPts (dst d s) s f))
/-- What each transfer semaphore of device `c` hands it: a sent piece back, or a filled slot. -/
def xferPay (c : Dev nD) : Fin 12 → sProp 𝕄
  | ⟨0, _⟩ => ptPts c (dst c 2) (part m ρ c) | ⟨1, _⟩ => ptPts c (dst c 1) (part m ρ c) | ⟨2, _⟩ => ptPts c (dst c 0) (part m ρ c)
  | ⟨3, _⟩ => rsPts c 0 (rsBuf m ρ c) | ⟨4, _⟩ => rsPts c 1 (rsBuf m ρ c) | ⟨5, _⟩ => rsPts c 2 (rsBuf m ρ c)
  | ⟨6, _⟩ => asPts c (Ring.shares3 fullShare 2) (agSend m ρ c) | ⟨7, _⟩ => asPts c (Ring.shares3 fullShare 1) (agSend m ρ c)
  | ⟨8, _⟩ => asPts c (Ring.shares3 fullShare 0) (agSend m ρ c)
  | ⟨9, _⟩ => agPts c 0 (agBuf m ρ c) | ⟨10, _⟩ => agPts c 1 (agBuf m ρ c) | ⟨_ + 11, _⟩ => agPts c 2 (agBuf m ρ c)

theorem xfer_rsS (c : Dev nD) (s : Fin 3) : xferPay m ρ c (rsS s) = ptPts c (dst c s) (part m ρ c) := by fin_cases s <;> rfl
theorem xfer_rsR (c : Dev nD) (s : Fin 3) : xferPay m ρ c (rsR s) = rsPts c s (rsBuf m ρ c) := by fin_cases s <;> rfl
theorem xfer_agS (c : Dev nD) (s : Fin 3) : xferPay m ρ c (agS s) = asPts c (Ring.shares3 fullShare s) (agSend m ρ c) := by fin_cases s <;> rfl
theorem xfer_agR (c : Dev nD) (s : Fin 3) : xferPay m ρ c (agR s) = agPts c s (agBuf m ρ c) := by fin_cases s <;> rfl

omit [FloatOps F] in
instance barPay_storable (c : Dev nD) (s) : BI.Storable (upEmb : UEmb _ 𝕄) (barPay (F := F) c s) := by unfold barPay; infer_instance
instance xferPay_storable (c : Dev nD) (j : Fin 12) : BI.Storable (upEmb : UEmb _ 𝕄) (xferPay (F := F) m ρ c j) := by
  fin_cases j <;> (unfold xferPay; infer_instance)

set_option backward.proofsInPublic true in
/-- One round. The barrier semaphore of a device has the duties 0, 1, 2, one unit each; a transfer semaphore the duty
    0, of one block's credit. -/
def arRd : Rounds.Schedule (GSem nD τ sig) (Fin 3) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma _ => N
  payload g _ d := match g.2 with
    | .reg _ => barPay g.1.1 d
    | .dma q => if h : 3 ≤ q.val then xferPay m ρ g.1.1 ⟨q.val - 3, by have : q.val < 15 := q.2; omega⟩ else iprop(emp)
  amount_pos g _ _ _ := by
    rcases g with ⟨t, _ | _⟩
    · exact Nat.one_pos
    · exact N_pos

instance arRd_payload_storable (g : GSem nD τ sig) (r : ℕ) (d : Fin 3) :
    BI.Storable (upEmb : UEmb _ 𝕄) ((arRd (F := F) m ρ).payload g r d) := by
  rcases g with ⟨t, q | q⟩
  · show BI.Storable upEmb (barPay t.1 d); infer_instance
  · show BI.Storable upEmb (if h : 3 ≤ q.val then xferPay m ρ t.1 ⟨q.val - 3, _⟩ else iprop(emp))
    split <;> infer_instance

section Sched
variable (c : Dev nD) (j : Fin 12)

theorem duties_bar : (arRd (F := F) m ρ).duties (barCell c) 0 = Finset.univ := by dsimp only [arRd]; exact if_pos ⟨rfl, rfl⟩
theorem duties_xfer : (arRd (F := F) m ρ).duties (dcell c j) 0 = {0} := by
  dsimp only [arRd]; rw [if_pos ⟨rfl, rfl⟩]; exact if_pos (by omega)
theorem duties_later (g : GSem nD τ sig) : ∀ r, 1 ≤ r → (arRd (F := F) m ρ).duties g r = ∅ :=
  fun r hr => by dsimp only [arRd]; exact if_neg fun h => by omega
theorem amount_bar (d : Fin 3) : (arRd (F := F) m ρ).amount (barCell c) 0 d = 1 := rfl
theorem amount_xfer (d : Fin 3) : (arRd (F := F) m ρ).amount (dcell c j) 0 d = N := rfl
theorem expect_bar : (arRd (F := F) m ρ).expect (barCell c) 0 = 3 := by
  unfold Schedule.expect Schedule.amountOf
  rw [duties_bar, Finset.sum_congr rfl fun d _ => amount_bar m ρ c d]; rfl
theorem expect_xfer : (arRd (F := F) m ρ).expect (dcell c j) 0 = N := by
  unfold Schedule.expect Schedule.amountOf; rw [duties_xfer, Finset.sum_singleton, amount_xfer]
theorem payload_bar (d : Fin 3) : (arRd (F := F) m ρ).payload (barCell c) 0 d = barPay c d := rfl
theorem payload_xfer (d : Fin 3) : (arRd (F := F) m ρ).payload (dcell c j) 0 d = xferPay m ρ c j := by
  dsimp only [arRd]; rw [dif_pos (by omega)]; rfl
/-- What a whole round hands over. -/
theorem rest_bar : bigSep ((arRd (F := F) m ρ).duties (barCell c) 0 \ ∅) (fun d => (arRd (F := F) m ρ).payload (barCell c) 0 d)
    = iprop(barPay c 0 ∗ barPay c 1 ∗ barPay c 2) := by
  rw [Finset.sdiff_empty, duties_bar, bigSep_fin3]; rfl
theorem rest_xfer : bigSep ((arRd (F := F) m ρ).duties (dcell c j) 0 \ ∅) (fun d => (arRd (F := F) m ρ).payload (dcell c j) 0 d)
    = xferPay m ρ c j := by
  rw [Finset.sdiff_empty, duties_xfer, bigSep_singleton, payload_xfer]

end Sched

/-! ## What each device owes at launch; the levels -/

/-- A unit at the barrier of the device that fills slot `s`; a block's credit at the device whose slot `s` it fills,
    in the reduction and in the gather. -/
abbrev barO (c : Dev nD) (s : Fin 3) : CellTallies nD τ sig Unit := tallyAt (barCell (src c s)) () 1
abbrev rsO (c : Dev nD) (s : Fin 3) : CellTallies nD τ sig Unit := tallyAt (dcell (dst c s) (rsR s)) () N
abbrev agO (c : Dev nD) (s : Fin 3) : CellTallies nD τ sig Unit := tallyAt (dcell (dst c s) (agR s)) () N
/-- All of the gather, all of the reduction, all of the barrier, each summed so that its payments come off the right. -/
def OA (c : Dev nD) : CellTallies nD τ sig Unit := ((0 + agO c 0) + agO c 2) + agO c 1
def OR (c : Dev nD) : CellTallies nD τ sig Unit := ((OA c + rsO c 0) + rsO c 2) + rsO c 1
def O₀ (c : Dev nD) : CellTallies nD τ sig Unit := ((OR c + barO c 2) + barO c 1) + barO c 0

def L (g : GSem nD τ sig) : Finset Unit := if g.1.2 = .tc then {()} else ∅
/-- The barrier at 1, the receivers' semaphores of the reduction at 2, of the gather at 3, every other at 0. -/
def lv (g : GSem nD τ sig) (_ : Unit) : ℕ := match g.2 with
  | .reg _ => 1 | .dma q => if 12 ≤ q.val then 3 else if 6 ≤ q.val ∧ q.val < 9 then 2 else 0

theorem L_of_ne (g : GSem nD τ sig) (h : g.1.2 ≠ .tc) : L g = ∅ := if_neg h

/-- Everything owed lies above level `k`. -/
def Above (k : ℕ) (O : CellTallies nD τ sig Unit) : Prop := ∀ g u, 0 < O g u → g.1.2 = .tc ∧ k < lv g u

theorem above_zero (k : ℕ) : Above k 0 := fun g u h => absurd h (Nat.lt_irrefl 0)
theorem above_add {k : ℕ} {A B : CellTallies nD τ sig Unit} (hA : Above k A) (hB : Above k B) : Above k (A + B) := fun g u h => by
  rw [Pi.add_apply, Finsupp.add_apply] at h
  rcases Nat.eq_zero_or_pos (A g u) with h0 | h0
  · exact hB g u (by omega)
  · exact hA g u h0
theorem above_mono {k k' : ℕ} (h : k' ≤ k) {O : CellTallies nD τ sig Unit} (hO : Above k O) : Above k' O :=
  fun g u hg => ⟨(hO g u hg).1, lt_of_le_of_lt h (hO g u hg).2⟩
theorem above_tally {k : ℕ} (d : Dev nD) (sm : SemLoc sig) (n : ℕ) (h : k < lv ((d : Thread nD τ), sm) ()) :
    Above k (tallyAt ((d : Thread nD τ), sm) () n) := fun g u hg => by
  rw [tallyAt_apply] at hg
  by_cases he : g = ((d : Thread nD τ), sm) ∧ u = ()
  · rw [he.1]; exact ⟨rfl, h⟩
  · rw [if_neg he] at hg; exact absurd hg (Nat.lt_irrefl 0)
theorem above_agO (c : Dev nD) (s : Fin 3) : Above 2 (agO c s) := above_tally _ _ _ (by
  show 2 < if 12 ≤ 9 + s.val + 3 then 3 else _
  rw [if_pos (by omega)]; decide)
theorem above_rsO (c : Dev nD) (s : Fin 3) : Above 1 (rsO c s) := above_tally _ _ _ (by
  show 1 < if 12 ≤ 3 + s.val + 3 then 3 else if 6 ≤ 3 + s.val + 3 ∧ 3 + s.val + 3 < 9 then 2 else 0
  rw [if_neg (by omega), if_pos (by omega)]; decide)
theorem above_barO (c : Dev nD) (s : Fin 3) : Above 0 (barO c s) := above_tally _ _ _ Nat.one_pos
theorem above_OA (c : Dev nD) : Above 2 (OA c) :=
  above_add (above_add (above_add (above_zero 2) (above_agO c 0)) (above_agO c 2)) (above_agO c 1)
theorem above_OR (c : Dev nD) : Above 1 (OR c) :=
  above_add (above_add (above_add (above_mono (by decide) (above_OA c)) (above_rsO c 0)) (above_rsO c 2)) (above_rsO c 1)
theorem above_O₀ (c : Dev nD) : Above 0 (O₀ c) :=
  above_add (above_add (above_add (above_mono (by decide) (above_OR c)) (above_barO c 2)) (above_barO c 1)) (above_barO c 0)

omit [FloatOps F] in
/-- A wait on a semaphore is allowed when everything owed lies above its level. -/
theorem mayWait_of (c : Dev nD) (sm : SemLoc sig) {k : ℕ} {O : CellTallies nD τ sig Unit} (hk : lv ((c : Thread nD τ), sm) () ≤ k) (hO : Above k O) :
    (levAts L lv : sProp 𝕄) ⊢ MayWait (c : Thread nD τ) sm () O :=
  MayOwe.of_cut (L := L) (lev := lv) k (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hk)
    (fun g u hg => (hO g u hg).2)

end Cert.KernelIdeal.Ar

end
-- ==== Proof.KernelIdealSteps.lean ====
/-
The steps of the exchange, each once for every device and slot: a barrier signal, the barrier wait, a send of
the reduction, a send of the gather, a wait on a transfer semaphore, and the closing of a device's semaphores.
-/
module

public import proofs.«01_k».proof.Proof.KernelIdealProto

@[expose] public section

noncomputable section

namespace Cert.KernelIdeal.Ar

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

abbrev 𝒱₀ : Variants := Variants.none

/-- The semaphores' invariants of every device, and that every semaphore's round 0 is open. -/
def records : sProp 𝕄 :=
  iprop((bigSep Finset.univ fun ck : Dev nD × Fin 13 => cellInv ER (arRd m ρ) (K ck) (kcell ck))
    ∗ bigSep Finset.univ fun ck : Dev nD × Fin 13 => reached ER (kcell ck) 0)
instance records_persistent : BI.Persistent (records m ρ K) := by unfold records; infer_instance

/-- Those, and the levels. -/
def env : sProp 𝕄 := iprop(records m ρ K ∗ levAts L lv)
instance env_persistent : BI.Persistent (env m ρ K) := by unfold env; infer_instance

omit [FloatOps F] in
theorem bigSep_at {I : Type} [DecidableEq I] [Fintype I] (Φ : I → sProp 𝕄) (i : I) : bigSep Finset.univ Φ ⊢ Φ i := bigSep_elim (Finset.mem_univ i)
theorem inv_of (ck : Dev nD × Fin 13) : env m ρ K ⊢ cellInv ER (arRd m ρ) (K ck) (kcell ck) :=
  (show env m ρ K ⊢ bigSep Finset.univ fun ck : Dev nD × Fin 13 => cellInv ER (arRd m ρ) (K ck) (kcell ck) by
    unfold env records; iintro ⟨⟨HI, -⟩, -⟩; iexact HI).trans (bigSep_at (F := F) _ ck)
theorem reached_of (ck : Dev nD × Fin 13) : env m ρ K ⊢ reached ER (kcell ck) 0 :=
  (show env m ρ K ⊢ bigSep Finset.univ fun ck : Dev nD × Fin 13 => reached ER (kcell ck) 0 by
    unfold env records; iintro ⟨⟨-, HR⟩, -⟩; iexact HR).trans (bigSep_at (F := F) _ ck)
theorem levs_of : env m ρ K ⊢ levAts L lv := by unfold env; iintro ⟨-, H⟩; iexact H
theorem bar_inv (c : Dev nD) : env m ρ K ⊢ cellInv ER (arRd m ρ) (K (c, 0)) (barCell c) := inv_of m ρ K (c, 0)
theorem bar_reached (c : Dev nD) : env m ρ K ⊢ reached ER (barCell c) 0 := reached_of m ρ K (c, 0)
theorem d_inv (c : Dev nD) (j : Fin 12) : env m ρ K ⊢ cellInv ER (arRd m ρ) (K (c, j.succ)) (dcell c j) := inv_of m ρ K (c, j.succ)
theorem d_reached (c : Dev nD) (j : Fin 12) : env m ρ K ⊢ reached ER (dcell c j) 0 := reached_of m ρ K (c, j.succ)

/-- A device's outstanding payments, whatever it has waited for. -/
def ow (c : Dev nD) (O : CellTallies nD τ sig Unit) : sProp 𝕄 := iprop(∃ W, owes (c : Thread nD τ) O W)

/-- The signal that frees slot `s`: the device that fills it gets both slots of that number. -/
theorem step_signal (c n : Dev nD) (s : Fin 3) (hn : n = src c s) {k' : ℕ} (hk : 1 = k') (O : CellTallies nD τ sig Unit)
    {α : Type} {Q : α → sProp 𝕄} {k : PUnit → Prog (TpuEff nD τ sig (Elt F) Λ₀ .tc) α} :
    iprop(env m ρ K ∗ (∃ f, rsPts c s f) ∗ (∃ f, agPts c s f) ∗ ow c (O + barO c s) ∗ dutyTok ER (barCell (src c s)) 0 s)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  unfold ow
  iintro ⟨#He, Hr, Ha, ⟨%W, HO⟩, Ht⟩ Hk
  iapply (Rounds.wp_signal 𝒱₀ ER (arRd m ρ) (c : Thread nD τ) none (dst := (src c s : Thread nD τ)) (κ := K (src c s, 0))
      (d := s) (by rw [duties_bar]; exact Finset.mem_univ _) (amount_bar m ρ (src c s) s) () O rfl)
    $$ [Hr Ha HO Ht]
  · isplitr; · iapply (bar_inv m ρ K (src c s)); iexact He
    isplitl [HO]; · iexact HO
    isplitl [Ht]; · iexact Ht
    isplitl
    · rw [payload_bar]; unfold barPay; rw [dst_src]
      isplitl [Hr] <;> iassumption
    · iapply (bar_reached m ρ K (src c s)); iexact He
  iintro HO
  iapply Hk; iexists W; iexact HO

/-- The wait for all three signals: the device holds the slots it is to fill. -/
theorem step_barrier (c : Dev nD) {k' : ℕ} (hk : k' = 3) (O : CellTallies nD τ sig Unit) (hO : Above 1 O)
    {α : Type} {Q : α → sProp 𝕄} {k : PUnit → Prog (TpuEff nD τ sig (Elt F) Λ₀ .tc) α} :
    iprop(env m ρ K ∗ cred (tallyAt (barCell c) () 3) ∗ ow c O ∗ atPos ER (kcell (c, 0)) 0 ∅ 0)
      ⊢ iprop(((ow c O ∗ atPos ER (kcell (c, 0)) 1 ∅ 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold ow
  iintro ⟨#He, Hc, ⟨%W, HO⟩, Hat⟩ Hk
  iapply (Rounds.wp_wait_rest_token 𝒱₀ ER (arRd m ρ) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iapply (bar_inv m ρ K c); iexact He
    isplitl [Hc]; · iexact Hc
    isplitl [HO]; · iexact HO
    isplitr; · iapply (mayWait_of c (.reg barS) (le_refl 1) hO); iapply (levs_of m ρ K); iexact He
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- The wait on transfer semaphore `j`, owing nothing at or below its level: its piece. -/
theorem step_wait (c : Dev nD) (j : Fin 12) {sem : DmaSem sig} (hs : SemLoc.dma sem = osem j)
    {s s' : Shape} {e e' : EltTy} {srcM : Memref sig .tc .vmem s' e'} {dstM : Memref sig .tc .vmem s e}
    {hsrc : srcM.view.WordExact} {hdst : dstM.view.WordExact} (hcr : dstM.view.dmaCredit = N)
    (O : CellTallies nD τ sig Unit) (cut : ℕ) (hlv : lv (dcell c j) () ≤ cut) (hO : Above cut O)
    {α : Type} {Q : α → sProp 𝕄} {k : PUnit → Prog (TpuEff nD τ sig (Elt F) Λ₀ .tc) α} :
    iprop(env m ρ K ∗ cred (tallyAt (dcell c j) () N) ∗ ow c O ∗ atPos ER (kcell (c, j.succ)) 0 ∅ 0)
      ⊢ iprop(((ow c O ∗ atPos ER (kcell (c, j.succ)) 1 ∅ 0 ∗ xferPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM hsrc hdst) k) Q) := by
  cases hs
  unfold ow
  iintro ⟨#He, Hc, ⟨%W, HO⟩, Hat⟩ Hk
  iapply (Rounds.wp_wait_rest_token 𝒱₀ ER (arRd m ρ) (c : Thread nD τ) none (κ := K (c, j.succ)) (k' := N)
      (fun Kt => (wpE_waitDma2_eq 𝒱₀ (c : Thread nD τ) none Set.univ Kt).trans (by rw [hcr])) (Set.mem_univ _) () (O := O) (W := W) (R := 0) (m := 0) (T := ∅)
      (by rw [Nat.zero_add]; exact (expect_xfer m ρ c j).symm)) $$ [Hc HO Hat]
  · isplitr; · iapply (d_inv m ρ K c j); iexact He
    isplitl [Hc]; · iexact Hc
    isplitl [HO]; · iexact HO
    isplitr; · iapply (mayWait_of c (osem j) hlv hO); iapply (levs_of m ρ K); iexact He
    iexact Hat
  iintro ⟨HO, Hat, -, Hpay⟩
  ihave Hp := (Entails.of_eq (rest_xfer m ρ c j)) $$ Hpay
  iapply Hk
  isplitl [HO]; · iexists _; iexact HO
  isplitl [Hat]; · iexact Hat
  iexact Hp

/-- The send that fills slot `s` of the reduction at the device `n`. -/
theorem step_rs (c n : Dev nD) (s : Fin 3) (hn : n = dst c s) {srcM dstM : Memref sig .tc .vmem S128x512 .bf16}
    (hsM : srcM = rowOf (dst c s)) (hdM : dstM = slotOf rsM s) {sS sR : SemLoc sig} (hS : sS = osem (rsS s)) (hR : sR = osem (rsR s))
    {hsc : (dstM : Memref sig (Dev.tc n : Thread nD τ).2.kind .vmem S128x512 .bf16).view.ref.isScScratch = false}
    {hsrc : srcM.view.WordExact} {hdst : dstM.view.WordExact}
    {hsem : DmaTarget.Typed .vmem sR (.remote (Dev.tc n : Thread nD τ) (dstM : Memref sig .tc .vmem S128x512 .bf16) sS hsc)}
    (O : CellTallies nD τ sig Unit) {α : Type} {Q : α → sProp 𝕄} {k : PUnit → Prog (TpuEff nD τ sig (Elt F) Λ₀ .tc) α} :
    iprop(env m ρ K ∗ ptPts c (dst c s) (part m ρ c) ∗ (∃ f, rsPts (dst c s) s f) ∗ ow c (O + rsO c s)
        ∗ dutyTok ER (dcell c (rsS s)) 0 0 ∗ dutyTok ER (dcell (dst c s) (rsR s)) 0 0)
      ⊢ iprop(((cred (tallyAt (dcell c (rsS s)) () N) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM sS hsc) sR hsrc hdst hsem) k) Q) := by
  subst hn hsM hdM hS hR
  unfold ow
  iintro ⟨#He, Hs, ⟨%fd, Hd⟩, ⟨%W, HO⟩, Ht1, Ht2⟩ Hk
  iapply (Rounds.wp_send_pointsTo 𝒱₀ ER (arRd m ρ) (c : Thread nD τ) none (c' := (dst c s : Thread nD τ)) (src := rowOf (dst c s)) (dst := slotOf rsM s)
    (sS := osem (rsS s)) (sem := osem (rsR s)) (κ₁ := K (c, (rsS s).succ)) (κ₂ := K (dst c s, (rsR s).succ))
    (r₁ := 0) (r₂ := 0) (d₁ := 0) (d₂ := 0) (fd := fd) (fs := part m ρ c) (q := fullShare)
    (by rw [duties_xfer]; exact Finset.mem_singleton_self _) (by rw [duties_xfer]; exact Finset.mem_singleton_self _)
    () () N (credit_rs s) (amount_xfer m ρ c (rsS s) 0) (amount_xfer m ρ (dst c s) (rsR s) 0) O rfl (W := W)
    (by rw [payload_xfer, xfer_rsS]; exact BI.Entails.refl _)
    (by rw [payload_xfer, xfer_rsR]; exact rs_land m ρ c s fd)) $$ [Hs Hd HO Ht1 Ht2]
  · isplitr; · iapply (d_inv m ρ K c (rsS s)); iexact He
    isplitr; · iapply (d_inv m ρ K (dst c s) (rsR s)); iexact He
    isplitl [Hs]; · unfold ptPts; iexact Hs
    isplitl [Hd]; · unfold rsPts; iexact Hd
    isplitl [HO]; · iexact HO
    isplitl [Ht1]; · iexact Ht1
    isplitr; · iapply (d_reached m ρ K c (rsS s)); iexact He
    isplitl [Ht2]; · iexact Ht2
    iapply (d_reached m ρ K (dst c s) (rsR s)); iexact He
  iintro ⟨Hc, HO⟩
  iapply Hk
  isplitl [Hc]; · iexact Hc
  iexists W; iexact HO

/-- The send that fills slot `s` of the gather at the device `n`, from one of three shares of the summed block. -/
theorem step_ag (c n : Dev nD) (s : Fin 3) (hn : n = dst c s) {dstM : Memref sig .tc .vmem S128x512 .bf16}
    (hdM : dstM = slotOf agM s) {sS sR : SemLoc sig} (hS : sS = osem (agS s)) (hR : sR = osem (agR s))
    {hsc : (dstM : Memref sig (Dev.tc n : Thread nD τ).2.kind .vmem S128x512 .bf16).view.ref.isScScratch = false}
    {hsrc : (asM : Memref sig .tc .vmem S128x512 .bf16).view.WordExact} {hdst : dstM.view.WordExact}
    {hsem : DmaTarget.Typed .vmem sR (.remote (Dev.tc n : Thread nD τ) (dstM : Memref sig .tc .vmem S128x512 .bf16) sS hsc)}
    (O : CellTallies nD τ sig Unit) {α : Type} {Q : α → sProp 𝕄} {k : PUnit → Prog (TpuEff nD τ sig (Elt F) Λ₀ .tc) α} :
    iprop(env m ρ K ∗ asPts c (Ring.shares3 fullShare s) (agSend m ρ c) ∗ (∃ f, agPts (dst c s) s f) ∗ ow c (O + agO c s)
        ∗ dutyTok ER (dcell c (agS s)) 0 0 ∗ dutyTok ER (dcell (dst c s) (agR s)) 0 0)
      ⊢ iprop(((cred (tallyAt (dcell c (agS s)) () N) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma asM (.remote (Dev.tc n : Thread nD τ) dstM sS hsc) sR hsrc hdst hsem) k) Q) := by
  subst hn hdM hS hR
  unfold ow
  iintro ⟨#He, Hs, ⟨%fd, Hd⟩, ⟨%W, HO⟩, Ht1, Ht2⟩ Hk
  iapply (Rounds.wp_send_pointsTo 𝒱₀ ER (arRd m ρ) (c : Thread nD τ) none (c' := (dst c s : Thread nD τ)) (src := asM) (dst := slotOf agM s)
    (sS := osem (agS s)) (sem := osem (agR s)) (κ₁ := K (c, (agS s).succ)) (κ₂ := K (dst c s, (agR s).succ))
    (r₁ := 0) (r₂ := 0) (d₁ := 0) (d₂ := 0) (fd := fd) (fs := agSend m ρ c) (q := Ring.shares3 fullShare s)
    (by rw [duties_xfer]; exact Finset.mem_singleton_self _) (by rw [duties_xfer]; exact Finset.mem_singleton_self _)
    () () N (credit_ag s) (amount_xfer m ρ c (agS s) 0) (amount_xfer m ρ (dst c s) (agR s) 0) O rfl (W := W)
    (by rw [payload_xfer, xfer_agS]; exact BI.Entails.refl _)
    (by rw [payload_xfer, xfer_agR]; exact ag_land m ρ c s fd)) $$ [Hs Hd HO Ht1 Ht2]
  · isplitr; · iapply (d_inv m ρ K c (agS s)); iexact He
    isplitr; · iapply (d_inv m ρ K (dst c s) (agR s)); iexact He
    isplitl [Hs]; · unfold asPts; iexact Hs
    isplitl [Hd]; · unfold agPts; iexact Hd
    isplitl [HO]; · iexact HO
    isplitl [Ht1]; · iexact Ht1
    isplitr; · iapply (d_reached m ρ K c (agS s)); iexact He
    isplitl [Ht2]; · iexact Ht2
    iapply (d_reached m ρ K (dst c s) (agR s)); iexact He
  iintro ⟨Hc, HO⟩
  iapply Hk
  isplitl [Hc]; · iexact Hc
  iexists W; iexact HO

/-- All thirteen semaphores of a device, their round behind them, close: their counters are zero and the device's. -/
theorem close_all (c : Dev nD) :
    iprop(env m ρ K ∗ bigSep Finset.univ fun k : Fin 13 => (atPos ER (kcell (c, k)) 1 ∅ 0 : sProp 𝕄))
      ⊢ |={Set.univ}=> bigSep Finset.univ fun k : Fin 13 => (semVal (kcell (c, k)) 0 : sProp 𝕄) := by
  refine (BI.bigSep_with_persistent (Ψ := fun k : Fin 13 => iprop(|={Set.univ}=> semVal (kcell (c, k)) 0)) fun k _ => ?_).trans (bigSep_fupd _ _)
  iintro ⟨#He, Hat⟩
  iapply (Rounds.cell_close ER (arRd m ρ) (Set.mem_univ (K (c, k))) (fun h => h) (R := 1) (duties_later m ρ (kcell (c, k))))
  isplitr; · iapply (inv_of m ρ K (c, k)); iexact He
  iexact Hat

end Cert.KernelIdeal.Ar

end
-- ==== Proof.KernelIdealBody.lean ====
/-
The kernel's body on one device, executed effect by effect: it computes its partial product, hands its slots out
at the barrier, sends the three other blocks, sums its own, sends the sum to the three others, and takes theirs.
-/
module

public import proofs.«01_k».proof.Proof.KernelIdealSteps

@[expose] public section

noncomputable section

namespace Cert.KernelIdeal.Ar

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

/-! ## What the body starts from and ends with -/

/-- The tokens of the payments device `c` makes: three signals, and both ends of three sends of each exchange. -/
def payToks (c : Dev nD) : sProp 𝕄 :=
  iprop((bigSep Finset.univ fun s : Fin 3 => dutyTok ER (barCell (src c s)) 0 s)
    ∗ (bigSep Finset.univ fun s : Fin 3 => iprop(dutyTok ER (dcell c (rsS s)) 0 0 ∗ dutyTok ER (dcell (dst c s) (rsR s)) 0 0))
    ∗ (bigSep Finset.univ fun s : Fin 3 => iprop(dutyTok ER (dcell c (agS s)) 0 0 ∗ dutyTok ER (dcell (dst c s) (agR s)) 0 0)))
/-- Its position at round 0 of each of its thirteen semaphores. -/
def atAll (c : Dev nD) (r : ℕ) : sProp 𝕄 := bigSep Finset.univ fun k : Fin 13 => (atPos ER (kcell (c, k)) r ∅ 0 : sProp 𝕄)
def ghost (c : Dev nD) : sProp 𝕄 := iprop(records m ρ K ∗ atAll c 0 ∗ payToks c)
/-- The credit it may wait with: three units at its barrier, a block at each of its six receivers' semaphores. -/
def creds (c : Dev nD) : sProp 𝕄 :=
  iprop(cred (tallyAt (barCell c) () 3)
    ∗ (cred (tallyAt (dcell c (rsR 0)) () N) ∗ cred (tallyAt (dcell c (rsR 1)) () N) ∗ cred (tallyAt (dcell c (rsR 2)) () N))
    ∗ (cred (tallyAt (dcell c (agR 0)) () N) ∗ cred (tallyAt (dcell c (agR 1)) () N) ∗ cred (tallyAt (dcell c (agR 2)) () N)))
def start (c : Dev nD) : sProp 𝕄 := iprop((∃ K, ghost m ρ K c) ∗ creds c ∗ levAts L lv)
/-- The kernel's four scratch buffers at any contents. -/
def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))
def Φ₀ (c : Dev nD) : sProp 𝕄 := iprop(start m ρ c ∗ scr c)
/-- At the end: the scratch buffers again, and every semaphore of the device at zero. -/
def Φ₁ (c : Dev nD) : sProp 𝕄 := iprop(scr c ∗ bigSep Finset.univ fun k : Fin 13 => (semVal (kcell (c, k)) 0 : sProp 𝕄))

/-- The pipeline's data: the operands staged, the result written, the resources before and after, the payments owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => dyB m ρ c
    | ⟨1, _⟩ => wB m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Loads and stores through the kernel's rectangles -/

section Reads
variable {sp : CoreSpace} {s : Shape} {e : EltTy}

omit [FloatOps F] in
/-- Reads and writes through rectangles of one size at equal offsets are equal. -/
theorem readAt_congr (M : Memref sig .tc sp s e) {off off' : Fin s.rank → ℕ} (h : off = off') (size : Fin s.rank → ℕ)
    (i : ∀ a, off a + size a ≤ s.size a) (i' : ∀ a, off' a + size a ≤ s.size a) (f : M.view.ty.Contents (Elt F)) :
    M.view.readAt (Elt F) (Rect.unit (s := s) off size i).toLoadRect f = M.view.readAt (Elt F) (Rect.unit (s := s) off' size i').toLoadRect f := by
  subst h; rfl
omit [FloatOps F] in
theorem write_congr (M : Memref sig .tc sp s e) {off off' : Fin s.rank → ℕ} (h : off = off') (size : Fin s.rank → ℕ)
    (i : ∀ a, off a + size a ≤ s.size a) (i' : ∀ a, off' a + size a ≤ s.size a) (f : M.view.ty.Contents (Elt F))
    (v : ((a : Fin s.rank) → Fin (size a)) → Elt F e) :
    (M.access (Rect.unit (s := s) off size i) : View sig .tc _ _ _).write (Elt F) f v Finset.univ
      = (M.access (Rect.unit (s := s) off' size i') : View sig .tc _ _ _).write (Elt F) f v Finset.univ := by
  subst h; rfl
end Reads

omit [FloatOps F] in
/-- The offsets of a whole two-axis buffer. -/
theorem off_zero : (![0, 0] : Fin 2 → Nat) = fun _ => 0 := funext (Fin.forall_fin_two.mpr ⟨rfl, rfl⟩)
omit [FloatOps F] in
theorem read_dy (f : (cc0_stg0_0 : Ref sig .tc).ty.Contents (Elt F)) : (dyM : Memref sig .tc .vmem S512x2048 .bf16).view.readAt (Elt F)
    (Rect.unit (s := S512x2048) ![0, 0] S512x2048.size inb_S512x2048_S512x2048_0_0).toLoadRect f = f := Memref.readAt_unit_zero (Elt F) cc0_stg0_0 off_zero _ f
omit [FloatOps F] in
theorem read_w (f : (cc0_stg1_0 : Ref sig .tc).ty.Contents (Elt F)) : (wM : Memref sig .tc .vmem S512x2048 .bf16).view.readAt (Elt F)
    (Rect.unit (s := S512x2048) ![0, 0] S512x2048.size inb_S512x2048_S512x2048_0_0).toLoadRect f = f := Memref.readAt_unit_zero (Elt F) cc0_stg1_0 off_zero _ f
omit [FloatOps F] in
theorem write_pt (f w : (cc0_scratch0 : Ref sig .tc).ty.Contents (Elt F)) : ((ptM : Memref sig .tc .vmem S512x512 .bf16).access
    (Rect.unit (s := S512x512) ![0, 0] S512x512.size inb_S512x512_S512x512_0_0) : View sig .tc _ _ _).write (Elt F) f w Finset.univ = w :=
  Memref.write_access_unit_zero_univ (Elt F) cc0_scratch0 off_zero _ f w
omit [FloatOps F] in
theorem write_out (f w : (cc0_stg2_0 : Ref sig .tc).ty.Contents (Elt F)) : ((outM : Memref sig .tc .vmem S512x512 .f32).access
    (Rect.unit (s := S512x512) ![0, 0] S512x512.size inb_S512x512_S512x512_0_0) : View sig .tc _ _ _).write (Elt F) f w Finset.univ = w :=
  Memref.write_access_unit_zero_univ (Elt F) cc0_stg2_0 off_zero _ f w
omit [FloatOps F] in
theorem write_as (f w : (cc0_scratch2 : Ref sig .tc).ty.Contents (Elt F)) : ((asM : Memref sig .tc .vmem S128x512 .bf16).access
    (Rect.unit (s := S128x512) ![0, 0] S128x512.size inb_S128x512_S128x512_0_0) : View sig .tc _ _ _).write (Elt F) f w Finset.univ = w :=
  Memref.write_access_unit_zero_univ (Elt F) cc0_scratch2 off_zero _ f w

theorem prod_eq (c : Dev nD) : k0_pay1 (dyB m ρ c) (wB m ρ c) = prod m ρ c := rfl
/-- The three landing slots, as the kernel reads them. -/
theorem read_rs0 (f : (cc0_scratch1 : Ref sig .tc).ty.Contents (Elt F)) : (rsM : Memref sig .tc .vmem S3x128x512 .bf16).view.readAt (Elt F)
    (Rect.unit (s := S3x128x512) ![0, 0, 0] S1x128x512.size inb_S3x128x512_S1x128x512_0_0_0).toLoadRect f = rsSlotV f 0 := rfl
theorem read_rs1 (f : (cc0_scratch1 : Ref sig .tc).ty.Contents (Elt F)) : (rsM : Memref sig .tc .vmem S3x128x512 .bf16).view.readAt (Elt F)
    (Rect.unit (s := S3x128x512) ![1, 0, 0] S1x128x512.size inb_S3x128x512_S1x128x512_1_0_0).toLoadRect f = rsSlotV f 1 := rfl
theorem read_rs2 (f : (cc0_scratch1 : Ref sig .tc).ty.Contents (Elt F)) : (rsM : Memref sig .tc .vmem S3x128x512 .bf16).view.readAt (Elt F)
    (Rect.unit (s := S3x128x512) ![2, 0, 0] S1x128x512.size inb_S3x128x512_S1x128x512_2_0_0).toLoadRect f = rsSlotV f 2 := rfl
/-- The rows of the block the kernel names by offset: its own, and the block of the device that fills each slot. -/
theorem read_own (c : Dev nD) (f : (cc0_stg2_0 : Ref sig .tc).ty.Contents (Elt F)) : (outM : Memref sig .tc .vmem S512x512 .f32).view.readAt (Elt F)
    (Rect.unit (s := S512x512) (k0_off2 c) S128x512.size (k0_off2_inb c)).toLoadRect f = rowV f c :=
  readAt_congr outM (k0_off2_eq c) S128x512.size _ (row_inb c) f
theorem write_own (c : Dev nD) (f : (cc0_stg2_0 : Ref sig .tc).ty.Contents (Elt F)) (v : Vec F S128x512 .f32) : ((outM : Memref sig .tc .vmem S512x512 .f32).access
    (Rect.unit (s := S512x512) (k0_off2 c) S128x512.size (k0_off2_inb c)) : View sig .tc _ _ _).write (Elt F) f v Finset.univ = putRow f c v :=
  write_congr outM (k0_off2_eq c) S128x512.size _ (row_inb c) f v
theorem write_from0 (c : Dev nD) (f : (cc0_stg2_0 : Ref sig .tc).ty.Contents (Elt F)) (v : Vec F S128x512 .f32) : ((outM : Memref sig .tc .vmem S512x512 .f32).access
    (Rect.unit (s := S512x512) (k0_off3 c 0#32) S128x512.size (k0_off3_inb c 0)) : View sig .tc _ _ _).write (Elt F) f v Finset.univ = putRow f (src c 0) v :=
  write_congr outM (k0_off3_eq c 0) S128x512.size _ (row_inb (src c 0)) f v
theorem write_from1 (c : Dev nD) (f : (cc0_stg2_0 : Ref sig .tc).ty.Contents (Elt F)) (v : Vec F S128x512 .f32) : ((outM : Memref sig .tc .vmem S512x512 .f32).access
    (Rect.unit (s := S512x512) (k0_off3 c 1#32) S128x512.size (k0_off3_inb c 1)) : View sig .tc _ _ _).write (Elt F) f v Finset.univ = putRow f (src c 1) v :=
  write_congr outM (k0_off3_eq c 1) S128x512.size _ (row_inb (src c 1)) f v
theorem write_from2 (c : Dev nD) (f : (cc0_stg2_0 : Ref sig .tc).ty.Contents (Elt F)) (v : Vec F S128x512 .f32) : ((outM : Memref sig .tc .vmem S512x512 .f32).access
    (Rect.unit (s := S512x512) (k0_off3 c 2#32) S128x512.size (k0_off3_inb c 2)) : View sig .tc _ _ _).write (Elt F) f v Finset.univ = putRow f (src c 2) v :=
  write_congr outM (k0_off3_eq c 2) S128x512.size _ (row_inb (src c 2)) f v

omit [FloatOps F] in
theorem ag_sub (s : Fin 3) : (agM : Memref sig .tc .vmem S3x128x512 .bf16).view.setOn (slotR s).toLoadRect.set ⊆ (slotOf agM s).view.set := by
  rw [slot_set_ag]
  have h : ((agM : Memref sig .tc .vmem S3x128x512 .bf16).view.slice (slotR s)).set = (slotR s).set := View.set_slice_whole cc0_scratch3 (slotR s)
  rw [View.set_slice] at h
  exact Finset.Subset.trans (Finset.Subset.refl _) (Finset.Subset.antisymm_iff.mp h).1

/-- A load of slot `s` of the gather's buffer needs that slot only. -/
theorem step_load_ag (c : Dev nD) (s : Fin 3) (f : (cc0_scratch3 : Ref sig .tc).ty.Contents (Elt F))
    {hl : (agM : Memref sig .tc .vmem S3x128x512 .bf16).view.LoadsAt (slotR s).toLoadRect}
    {α : Type} {Q : α → sProp 𝕄} {k : Vec F S1x128x512 .bf16 → Prog (TpuEff nD τ sig (Elt F) Λ₀ .tc) α} :
    agPts c s f ⊢ iprop((agPts c s f -∗ wp frame (wpE (defs₀ (F := F)) 𝒱₀ (c : Thread nD τ) none) Set.univ (k (agSlotV f s)) Q)
          -∗ wp frame (wpE (defs₀ (F := F)) 𝒱₀ (c : Thread nD τ) none) Set.univ (.op (.load agM (slotR s).toLoadRect hl) k) Q) := by
  unfold agPts
  exact wp_load 𝒱₀ (c : Thread nD τ) none Set.univ (m := agM) (ag_sub s)

theorem credit_as : (asM : Memref sig .tc .vmem S128x512 .bf16).view.dmaCredit = N := rfl
theorem credit_src1 (c : Dev nD) : (ptM.slice (Rect.unit (s := S512x512) (k0_off1 c 1#32) S128x512.size (k0_off1_inb c 0)) (fun _ => rfl)).view.dmaCredit = N :=
  (congrArg (fun M : Memref sig .tc .vmem S128x512 .bf16 => M.view.dmaCredit) (srcM1 c)).trans (credit_pt _)
theorem credit_src2 (c : Dev nD) : (ptM.slice (Rect.unit (s := S512x512) (k0_off1 c 2#32) S128x512.size (k0_off1_inb c 1)) (fun _ => rfl)).view.dmaCredit = N :=
  (congrArg (fun M : Memref sig .tc .vmem S128x512 .bf16 => M.view.dmaCredit) (srcM2 c)).trans (credit_pt _)
theorem credit_src3 (c : Dev nD) : (ptM.slice (Rect.unit (s := S512x512) (k0_off1 c 3#32) S128x512.size (k0_off1_inb c 2)) (fun _ => rfl)).view.dmaCredit = N :=
  (congrArg (fun M : Memref sig .tc .vmem S128x512 .bf16 => M.view.dmaCredit) (srcM3 c)).trans (credit_pt _)

theorem lv_rsS (c : Dev nD) (s : Fin 3) : lv (dcell c (rsS s)) () = 0 := by fin_cases s <;> rfl
theorem lv_rsR (c : Dev nD) (s : Fin 3) : lv (dcell c (rsR s)) () = 2 := by fin_cases s <;> rfl
theorem lv_agS (c : Dev nD) (s : Fin 3) : lv (dcell c (agS s)) () = 0 := by fin_cases s <;> rfl
theorem lv_agR (c : Dev nD) (s : Fin 3) : lv (dcell c (agR s)) () = 3 := by fin_cases s <;> rfl

omit [FloatOps F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- The partial product just stored, in its four row blocks, -/
theorem pt_split' (c : Dev nD) :
    (View.loc (c : Thread nD τ) ((ptM : Memref sig .tc .vmem S512x512 .bf16).access (Rect.unit (s := S512x512) ![0, 0] S512x512.size inb_S512x512_S512x512_0_0))
        ↦{fullShare} k0_pay2 (dyB m ρ c) (wB m ρ c) : sProp 𝕄)
      ⊢ iprop(ptPts c c (part m ρ c) ∗ ptPts c (dst c 0) (part m ρ c) ∗ ptPts c (dst c 1) (part m ρ c) ∗ ptPts c (dst c 2) (part m ρ c)) :=
  Entails.of_eq (pt_split c (part m ρ c))
/-- and the summed block just stored, in the shares its three sends read. -/
theorem as_split' (c : Dev nD) :
    (View.loc (c : Thread nD τ) ((asM : Memref sig .tc .vmem S128x512 .bf16).access (Rect.unit (s := S128x512) ![0, 0] S128x512.size inb_S128x512_S128x512_0_0))
        ↦{fullShare} k0_pay4 (rowV (prod m ρ c) c) (rsSlotV (rsBuf m ρ c) 0) (rsSlotV (rsBuf m ρ c) 1) (rsSlotV (rsBuf m ρ c) 2) : sProp 𝕄)
      ⊢ iprop(asPts c (Ring.shares3 fullShare 0) (agSend m ρ c) ∗ asPts c (Ring.shares3 fullShare 1) (agSend m ρ c) ∗ asPts c (Ring.shares3 fullShare 2) (agSend m ρ c)) :=
  (as_split c (agSend m ρ c)).1

/-! ## The obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (dyB m ρ c) ∗ stg c cc0_stg1_0 (wB m ρ c) ∗ stg c cc0_stg2_0 (outAt m ρ c))

/-- The body as the pipeline calls it. -/
abbrev theBody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

end Cert.KernelIdeal.Ar

end
-- ==== Proof.KernelIdealSound.lean ====
/-
The kernel's body on one device, run effect by effect in program order.
-/
module

public import proofs.«01_k».proof.Proof.KernelIdealBody

@[expose] public section

noncomputable section

namespace Cert.KernelIdeal.Ar

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

set_option maxHeartbeats 1000000 in
set_option maxRecDepth 8000 in
/-- The body, one step per effect in program order. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ theBody Kt := by
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre Φ₀ start ghost atAll payToks creds scr
  rw [bigSep_fin13, bigSep_fin3, bigSep_fin3, bigSep_fin3]
  iintro ⟨⟨⟨⟨⟨%K, #Hrec, ⟨P0, P1, P2, P3, P4, P5, P6, P7, P8, P9, P10, P11, P12⟩, ⟨TB0, TB1, TB2⟩, ⟨⟨TS0, TR0⟩, ⟨TS1, TR1⟩, ⟨TS2, TR2⟩⟩, ⟨⟨US0, UR0⟩, ⟨US1, UR1⟩, ⟨US2, UR2⟩⟩⟩,
      ⟨HcB, ⟨HcR0, HcR1, HcR2⟩, ⟨HcA0, HcA1, HcA2⟩⟩, #Hlev⟩, ⟨⟨%f0, Hs0⟩, ⟨%f1, Hs1⟩, ⟨%f2, Hs2⟩, ⟨%f3, Hs3⟩⟩⟩,
    Ho, ⟨%d0, %g0, %hg0, Hx⟩, ⟨%d1, %g1, %hg1, Hw⟩, ⟨%d2, %g2, %hg2, Hout⟩⟩, Hk⟩
  have hx : g0 = dyB m ρ c := by rw [hg0]; unfold Dat.before; rw [if_pos (fetch0_0 t0_0)]; rfl
  have hw : g1 = wB m ρ c := by rw [hg1]; unfold Dat.before; rw [if_pos (fetch0_1 t0_0)]; rfl
  subst hx hw
  unfold Dat.owesAt Pipeline.owesWithin
  icases Ho with ⟨%W, %hW, HO'⟩
  rw [show (dats m ρ 0 c).owed t0_0.castSucc = O₀ c from rfl]
  ihave HO := (show owes (c : Thread nD τ) (O₀ c) W ⊢ ow c (O₀ c) by unfold ow; iintro H; iexists W; iexact H) $$ HO'
  ihave #He := (show iprop(records m ρ K ∗ levAts L lv) ⊢ env m ρ K by unfold env; iintro H; iexact H) $$ []
  · isplitr; · iexact Hrec
    iexact Hlev
  ihave Hrs := (Entails.of_eq (rs_split c f1)) $$ Hs1
  icases Hrs with ⟨R0, R1, R2⟩
  ihave Hag := (Entails.of_eq (ag_split c f3)) $$ Hs3
  icases Hag with ⟨A0, A1, A2⟩
  unfold O₀
  iapply (step_signal m ρ K c _ 0 (dev1_eq c) (by decide) ((OR c + barO c 2) + barO c 1)) $$ [R0 A0 HO TB0]
  · isplitr; · iexact He
    isplitl [R0]; · iexists f1; iexact R0
    isplitl [A0]; · iexists f3; iexact A0
    isplitl [HO]; · iexact HO
    iexact TB0
  iintro HO
  iapply (step_signal m ρ K c _ 1 (dev2_eq c) (by decide) (OR c + barO c 2)) $$ [R1 A1 HO TB1]
  · isplitr; · iexact He
    isplitl [R1]; · iexists f1; iexact R1
    isplitl [A1]; · iexists f3; iexact A1
    isplitl [HO]; · iexact HO
    iexact TB1
  iintro HO
  iapply (step_signal m ρ K c _ 2 (dev3_eq c) (by decide) (OR c)) $$ [R2 A2 HO TB2]
  · isplitr; · iexact He
    isplitl [R2]; · iexists f1; iexact R2
    isplitl [A2]; · iexists f3; iexact A2
    isplitl [HO]; · iexact HO
    iexact TB2
  iintro HO
  iapply (wp_load 𝒱₀ (c : Thread nD τ) none Set.univ (m := dyM) (Finset.subset_univ _)) $$ Hx; iintro Hx
  iapply (wp_load 𝒱₀ (c : Thread nD τ) none Set.univ (m := wM) (Finset.subset_univ _)) $$ Hw; iintro Hw
  rw [read_dy, read_w]
  iapply (wp_load 𝒱₀ (c : Thread nD τ) none Set.univ (m := ptM) (Finset.subset_univ _)) $$ Hs0; iintro Hs0
  iapply (wp_store 𝒱₀ (c : Thread nD τ) none Set.univ (m := ptM) (r := Rect.unit (s := S512x512) ![0, 0] S512x512.size inb_S512x512_S512x512_0_0) (Mk := Finset.univ) (Finset.subset_univ _)) $$ Hs0; iintro Hs0
  rw [write_pt]
  ihave Hpt := (pt_split' m ρ c) $$ Hs0
  icases Hpt with ⟨Hown, D0, D1, D2⟩
  iapply (step_barrier m ρ K c (by decide) (OR c) (above_OR c)) $$ [HcB HO P0]
  · isplitr; · iexact He
    isplitl [HcB]; · iexact HcB
    isplitl [HO]; · iexact HO
    iexact P0
  iintro ⟨HO, P0, B0, B1, B2⟩
  unfold barPay
  icases B0 with ⟨R0, A0⟩
  icases B1 with ⟨R1, A1⟩
  icases B2 with ⟨R2, A2⟩
  unfold OR
  iapply (step_rs m ρ K c _ 1 (dev4_eq c) (srcM2 c) rfl rfl rfl ((OA c + rsO c 0) + rsO c 2)) $$ [D1 R1 HO TS1 TR1]
  · isplitr; · iexact He
    isplitl [D1]; · iexact D1
    isplitl [R1]; · iexact R1
    isplitl [HO]; · iexact HO
    isplitl [TS1]; · iexact TS1
    iexact TR1
  iintro ⟨HcS1, HO⟩
  iapply (step_rs m ρ K c _ 2 (dev5_eq c) (srcM1 c) rfl rfl rfl (OA c + rsO c 0)) $$ [D2 R2 HO TS2 TR2]
  · isplitr; · iexact He
    isplitl [D2]; · iexact D2
    isplitl [R2]; · iexact R2
    isplitl [HO]; · iexact HO
    isplitl [TS2]; · iexact TS2
    iexact TR2
  iintro ⟨HcS2, HO⟩
  iapply (step_rs m ρ K c _ 0 (dev6_eq c) (srcM3 c) rfl rfl rfl (OA c)) $$ [D0 R0 HO TS0 TR0]
  · isplitr; · iexact He
    isplitl [D0]; · iexact D0
    isplitl [R0]; · iexact R0
    isplitl [HO]; · iexact HO
    isplitl [TS0]; · iexact TS0
    iexact TR0
  iintro ⟨HcS0, HO⟩
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) ![0, 0] S512x512.size inb_S512x512_S512x512_0_0) (Mk := Finset.univ) (Finset.subset_univ _)) $$ Hout; iintro Hout
  rw [write_out, prod_eq]
  iapply (step_wait m ρ K c (rsR 1) rfl (credit_rs 1) (OA c) 2 (lv_rsR c 1).le (above_OA c)) $$ [HcR1 HO P5]
  · isplitr; · iexact He
    isplitl [HcR1]; · iexact HcR1
    isplitl [HO]; · iexact HO
    iexact P5
  iintro ⟨HO, P5, Hp⟩
  ihave R1 := (Entails.of_eq (xfer_rsR m ρ c 1)) $$ Hp
  iapply (step_wait m ρ K c (rsR 2) rfl (credit_rs 2) (OA c) 2 (lv_rsR c 2).le (above_OA c)) $$ [HcR2 HO P6]
  · isplitr; · iexact He
    isplitl [HcR2]; · iexact HcR2
    isplitl [HO]; · iexact HO
    iexact P6
  iintro ⟨HO, P6, Hp⟩
  ihave R2 := (Entails.of_eq (xfer_rsR m ρ c 2)) $$ Hp
  iapply (step_wait m ρ K c (rsR 0) rfl (credit_rs 0) (OA c) 2 (lv_rsR c 0).le (above_OA c)) $$ [HcR0 HO P4]
  · isplitr; · iexact He
    isplitl [HcR0]; · iexact HcR0
    isplitl [HO]; · iexact HO
    iexact P4
  iintro ⟨HO, P4, Hp⟩
  ihave R0 := (Entails.of_eq (xfer_rsR m ρ c 0)) $$ Hp
  ihave Hs1 := (Entails.of_eq (rs_split c (rsBuf m ρ c)).symm) $$ [R0 R1 R2]
  · isplitl [R0]; · iexact R0
    isplitl [R1]; · iexact R1
    iexact R2
  iapply (wp_load 𝒱₀ (c : Thread nD τ) none Set.univ (m := outM) (Finset.subset_univ _)) $$ Hout; iintro Hout
  iapply (wp_load 𝒱₀ (c : Thread nD τ) none Set.univ (m := rsM) (Finset.subset_univ _)) $$ Hs1; iintro Hs1
  iapply (wp_load 𝒱₀ (c : Thread nD τ) none Set.univ (m := rsM) (Finset.subset_univ _)) $$ Hs1; iintro Hs1
  iapply (wp_load 𝒱₀ (c : Thread nD τ) none Set.univ (m := rsM) (Finset.subset_univ _)) $$ Hs1; iintro Hs1
  rw [read_own, read_rs0, read_rs1, read_rs2]
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) (k0_off2 c) S128x512.size (k0_off2_inb c)) (Mk := Finset.univ) (Finset.subset_univ _)) $$ Hout; iintro Hout
  rw [write_own]
  iapply (wp_load 𝒱₀ (c : Thread nD τ) none Set.univ (m := asM) (Finset.subset_univ _)) $$ Hs2; iintro Hs2
  iapply (wp_store 𝒱₀ (c : Thread nD τ) none Set.univ (m := asM) (r := Rect.unit (s := S128x512) ![0, 0] S128x512.size inb_S128x512_S128x512_0_0) (Mk := Finset.univ) (Finset.subset_univ _)) $$ Hs2; iintro Hs2
  rw [write_as]
  ihave Has := (as_split' m ρ c) $$ Hs2
  icases Has with ⟨S0, S1, S2⟩
  unfold OA
  iapply (step_ag m ρ K c _ 1 (dev7_eq c) rfl rfl rfl ((0 + agO c 0) + agO c 2)) $$ [S1 A1 HO US1 UR1]
  · isplitr; · iexact He
    isplitl [S1]; · iexact S1
    isplitl [A1]; · iexact A1
    isplitl [HO]; · iexact HO
    isplitl [US1]; · iexact US1
    iexact UR1
  iintro ⟨HcU1, HO⟩
  iapply (step_ag m ρ K c _ 2 (dev8_eq c) rfl rfl rfl (0 + agO c 0)) $$ [S2 A2 HO US2 UR2]
  · isplitr; · iexact He
    isplitl [S2]; · iexact S2
    isplitl [A2]; · iexact A2
    isplitl [HO]; · iexact HO
    isplitl [US2]; · iexact US2
    iexact UR2
  iintro ⟨HcU2, HO⟩
  iapply (step_ag m ρ K c _ 0 (dev9_eq c) rfl rfl rfl 0) $$ [S0 A0 HO US0 UR0]
  · isplitr; · iexact He
    isplitl [S0]; · iexact S0
    isplitl [A0]; · iexact A0
    isplitl [HO]; · iexact HO
    isplitl [US0]; · iexact US0
    iexact UR0
  iintro ⟨HcU0, HO⟩
  iapply (step_wait m ρ K c (agR 1) rfl (credit_ag 1) 0 3 (lv_agR c 1).le (above_zero 3)) $$ [HcA1 HO P11]
  · isplitr; · iexact He
    isplitl [HcA1]; · iexact HcA1
    isplitl [HO]; · iexact HO
    iexact P11
  iintro ⟨HO, P11, Hp⟩
  ihave A1 := (Entails.of_eq (xfer_agR m ρ c 1)) $$ Hp
  iapply (step_load_ag c 1 (agBuf m ρ c)) $$ A1; iintro A1
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) (k0_off3 c 1#32) S128x512.size (k0_off3_inb c 1)) (Mk := Finset.univ) (Finset.subset_univ _)) $$ Hout; iintro Hout
  rw [write_from1]
  iapply (step_wait m ρ K c (agR 2) rfl (credit_ag 2) 0 3 (lv_agR c 2).le (above_zero 3)) $$ [HcA2 HO P12]
  · isplitr; · iexact He
    isplitl [HcA2]; · iexact HcA2
    isplitl [HO]; · iexact HO
    iexact P12
  iintro ⟨HO, P12, Hp⟩
  ihave A2 := (Entails.of_eq (xfer_agR m ρ c 2)) $$ Hp
  iapply (step_load_ag c 2 (agBuf m ρ c)) $$ A2; iintro A2
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) (k0_off3 c 2#32) S128x512.size (k0_off3_inb c 2)) (Mk := Finset.univ) (Finset.subset_univ _)) $$ Hout; iintro Hout
  rw [write_from2]
  iapply (step_wait m ρ K c (agR 0) rfl (credit_ag 0) 0 3 (lv_agR c 0).le (above_zero 3)) $$ [HcA0 HO P10]
  · isplitr; · iexact He
    isplitl [HcA0]; · iexact HcA0
    isplitl [HO]; · iexact HO
    iexact P10
  iintro ⟨HO, P10, Hp⟩
  ihave A0 := (Entails.of_eq (xfer_agR m ρ c 0)) $$ Hp
  iapply (step_load_ag c 0 (agBuf m ρ c)) $$ A0; iintro A0
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) (k0_off3 c 0#32) S128x512.size (k0_off3_inb c 0)) (Mk := Finset.univ) (Finset.subset_univ _)) $$ Hout; iintro Hout
  rw [write_from0]
  iapply (step_wait m ρ K c (rsS 1) rfl (credit_src2 c) 0 0 (lv_rsS c 1).le (above_zero 0)) $$ [HcS1 HO P2]
  · isplitr; · iexact He
    isplitl [HcS1]; · iexact HcS1
    isplitl [HO]; · iexact HO
    iexact P2
  iintro ⟨HO, P2, Hp⟩
  ihave D1 := (Entails.of_eq (xfer_rsS m ρ c 1)) $$ Hp
  iapply (step_wait m ρ K c (rsS 2) rfl (credit_src1 c) 0 0 (lv_rsS c 2).le (above_zero 0)) $$ [HcS2 HO P1]
  · isplitr; · iexact He
    isplitl [HcS2]; · iexact HcS2
    isplitl [HO]; · iexact HO
    iexact P1
  iintro ⟨HO, P1, Hp⟩
  ihave D2 := (Entails.of_eq (xfer_rsS m ρ c 2)) $$ Hp
  iapply (step_wait m ρ K c (rsS 0) rfl (credit_src3 c) 0 0 (lv_rsS c 0).le (above_zero 0)) $$ [HcS0 HO P3]
  · isplitr; · iexact He
    isplitl [HcS0]; · iexact HcS0
    isplitl [HO]; · iexact HO
    iexact P3
  iintro ⟨HO, P3, Hp⟩
  ihave D0 := (Entails.of_eq (xfer_rsS m ρ c 0)) $$ Hp
  iapply (step_wait m ρ K c (agS 1) rfl (credit_as) 0 0 (lv_agS c 1).le (above_zero 0)) $$ [HcU1 HO P8]
  · isplitr; · iexact He
    isplitl [HcU1]; · iexact HcU1
    isplitl [HO]; · iexact HO
    iexact P8
  iintro ⟨HO, P8, Hp⟩
  ihave S1 := (Entails.of_eq (xfer_agS m ρ c 1)) $$ Hp
  iapply (step_wait m ρ K c (agS 2) rfl (credit_as) 0 0 (lv_agS c 2).le (above_zero 0)) $$ [HcU2 HO P7]
  · isplitr; · iexact He
    isplitl [HcU2]; · iexact HcU2
    isplitl [HO]; · iexact HO
    iexact P7
  iintro ⟨HO, P7, Hp⟩
  ihave S2 := (Entails.of_eq (xfer_agS m ρ c 2)) $$ Hp
  iapply (step_wait m ρ K c (agS 0) rfl (credit_as) 0 0 (lv_agS c 0).le (above_zero 0)) $$ [HcU0 HO P9]
  · isplitr; · iexact He
    isplitl [HcU0]; · iexact HcU0
    isplitl [HO]; · iexact HO
    iexact P9
  iintro ⟨HO, P9, Hp⟩
  ihave S0 := (Entails.of_eq (xfer_agS m ρ c 0)) $$ Hp
  imod (close_all m ρ K c) $$ [P0 P1 P2 P3 P4 P5 P6 P7 P8 P9 P10 P11 P12] with Hz
  · isplitr; · iexact He
    rw [bigSep_fin13]
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    iexact P12
  rw [wp_ret]; imodintro
  iapply Hk
  unfold bodyPost Φ₁ scr Dat.owesAt Pipeline.owesWithin ow
  rw [show (dats m ρ 0 c).owed t0_0.succ = 0 from rfl]
  isplitl [Hown D0 D1 D2 Hs1 S0 S1 S2 A0 A1 A2 Hz]
  · isplitr [Hz]
    · isplitl [Hown D0 D1 D2]
      · iexists (part m ρ c); rw [pt_split]
        isplitl [Hown]; · iexact Hown
        isplitl [D0]; · iexact D0
        isplitl [D1]; · iexact D1
        iexact D2
      isplitl [Hs1]; · iexists (rsBuf m ρ c); iexact Hs1
      isplitl [S0 S1 S2]
      · iexists (agSend m ρ c); iapply (as_split c (agSend m ρ c)).2
        isplitl [S0]; · iexact S0
        isplitl [S1]; · iexact S1
        iexact S2
      · iexists (agBuf m ρ c); rw [ag_split]
        isplitl [A0]; · iexact A0
        isplitl [A1]; · iexact A1
        iexact A2
    · iexact Hz
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; swap; · iexact Hout
  ipureintro
  rfl

set_option maxHeartbeats 4000000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ theBody (fun _ => bodyPost m ρ c)
  iintro H
  iapply (sound_body m ρ c fun _ => bodyPost m ρ c)
  isplitl [H]; · iexact H
  iintro H; iexact H

end Cert.KernelIdeal.Ar

end
-- ==== Proof.KernelIdealLaunch.lean ====
/-
The launch: every device's semaphores, positions and tokens are made and dealt, the credit matches what is owed, and
the run of the whole program follows, with the arrays' final contents.
-/
module

public import proofs.«01_k».proof.Proof.KernelIdealSound
public import Idealize.ShloMosaic.Lib.Pipeline.CollectiveSegs

@[expose] public section

noncomputable section

namespace Cert.KernelIdeal.Ar

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem ownSemFacts : Pipeline.OwnSemFacts cfg0.spec (osem : Fin 12 → SemLoc sig) := by decide

theorem share_eq (c : Dev nD) (w : Fin cfg0.W) : (dats m ρ 0 c).share w = fullShare := by unfold Dat.share; split <;> rfl

omit [FloatOps F] in
theorem csem_injective : Function.Injective (fun k : Fin 13 => (csem k : SemLoc sig)) := by
  intro k k' h
  induction k using Fin.cases with
  | zero =>
    induction k' using Fin.cases with
    | zero => rfl
    | succ j' => exact absurd h (fun h => by cases h)
  | succ j =>
    induction k' using Fin.cases with
    | zero => exact absurd h (fun h => by cases h)
    | succ j' =>
      have h1 : (osem j : SemLoc sig) = osem j' := h
      have h2 : j.val + 3 = j'.val + 3 := congrArg Fin.val (SemLoc.dma.inj h1)
      exact congrArg Fin.succ (Fin.ext (by omega))
omit [FloatOps F] in
theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  subst h1 h2; rfl
def arCells : Finset (GSem nD τ sig) := Finset.univ.map ⟨kcell, kcell_injective⟩

/-- Every cell's three round-0 tokens. -/
abbrev tokOf (x : (Dev nD × Fin 13) × Fin 3) : GSem nD τ sig × ℕ × Fin 3 := (kcell x.1, 0, x.2)
omit [FloatOps F] in
theorem tokOf_injective : Function.Injective (tokOf : (Dev nD × Fin 13) × Fin 3 → GSem nD τ sig × ℕ × Fin 3) := by
  rintro ⟨x, s⟩ ⟨x', s'⟩ h
  have h1 : x = x' := kcell_injective (congrArg Prod.fst h)
  have h2 : s = s' := congrArg (fun y : GSem nD τ sig × ℕ × Fin 3 => y.2.2) h
  subst h1 h2; rfl
def arToks : Finset (GSem nD τ sig × ℕ × Fin 3) := Finset.univ.map ⟨tokOf, tokOf_injective⟩

def u₀ : UU := (initOf (Pipeline.cells cfgs cellOf_inj) (Pipeline.launchToks cfgs cellOf_inj), initOf arCells arToks)

/-- The duty tokens of device `c`'s own cells. -/
def toks (c : Dev nD) : sProp 𝕄 := bigSep Finset.univ fun k : Fin 13 => bigSep Finset.univ fun s : Fin 3 => dutyTok ER (kcell (c, k)) 0 s

/-- What device `c` is dealt at first. -/
def G (c : Dev nD) : sProp 𝕄 :=
  iprop((bigSep Finset.univ fun k : Fin 13 => roundState ER (arRd m ρ) (kcell (c, k)) 0)
    ∗ (bigSep Finset.univ fun k : Fin 13 => iprop(atPos ER (kcell (c, k)) 0 ∅ 0 ∗ reached ER (kcell (c, k)) 0)) ∗ toks c)
/-- What the step over all the devices makes of it. -/
def G' (c : Dev nD) : sProp 𝕄 := iprop(∃ K, ghost m ρ K c)

theorem fund_ar : BI.own (ER (initOf arCells arToks)) ⊢ (|==> bigSep Finset.univ (G m ρ) : sProp 𝕄) := by
  have hX (Φ : GSem nD τ sig → sProp 𝕄) : bigSep arCells Φ = bigSep Finset.univ fun c : Dev nD => bigSep Finset.univ fun k : Fin 13 => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks toks; rw [bigSep_map, bigSep_univ_prod, bigSep_univ_prod]; rfl
  iintro HX
  imod (Rounds.fund ER (arRd m ρ) arCells arToks) $$ HX with ⟨Hst, Hr, Hat, Htok⟩
  imodintro
  ihave Hst' := (Entails.of_eq (hX fun g => roundState ER (arRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
omit [FloatOps F] in
/-- A device's thirteen cells: the barrier's and the twelve transfers'. -/
theorem bigSep_cells (Φ : Fin 13 → sProp 𝕄) : bigSep Finset.univ Φ = iprop(Φ 0 ∗ bigSep Finset.univ fun j : Fin 12 => Φ j.succ) := by
  rw [bigSep_fin13, bigSep_fin12]; rfl
omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Fin 12 => semVal (dcell c j) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    (bigSep Finset.univ fun k : Fin 13 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_cells]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 13 => iprop(∃ κ : ℕ, cellInv ER (arRd m ρ) κ (kcell (c, k))))
          ∗ (bigSep Finset.univ fun k : Fin 13 => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 13 => semVal (kcell (c, k)) 0) ∗ bigSep Finset.univ fun k : Fin 13 => roundState ER (arRd m ρ) (kcell (c, k)) 0)
      ⊢ (|={Set.univ}=> bigSep Finset.univ fun k : Fin 13 => iprop(∃ κ : ℕ, cellInv ER (arRd m ρ) κ (kcell (c, k))) : sProp 𝕄) from by
        rw [← bigSep_sep']
        exact (bigSep_mono fun k _ => (Rounds.body_intro ER (arRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to who pays -/

def eS (s : Fin 3) : Dev nD ≃ Dev nD := ⟨fun c => src c s, fun c => dst c s, fun c => dst_src c s, fun c => src_dst c s⟩
omit [FloatOps F] in
theorem around_src (Φ : Dev nD → sProp 𝕄) (s : Fin 3) : bigSep Finset.univ Φ = bigSep Finset.univ fun c => Φ (src c s) := bigSep_univ_equiv (eS s) Φ
omit [FloatOps F] in
theorem around_dst (Φ : Dev nD → sProp 𝕄) (s : Fin 3) : bigSep Finset.univ Φ = bigSep Finset.univ fun c => Φ (dst c s) := bigSep_univ_equiv (eS s).symm Φ

omit [FloatOps F] in
theorem duty_first (g : GSem nD τ sig) : (bigSep Finset.univ fun s : Fin 3 => (dutyTok ER g 0 s : sProp 𝕄)) ⊢ dutyTok ER g 0 0 := bigSep_elim (Finset.mem_univ 0)

omit [FloatOps F] in
/-- Of a device's own tokens, those the protocol has: three of the barrier, one of each transfer's semaphore. -/
theorem toks_used (c : Dev nD) : (toks c : sProp 𝕄) ⊢ iprop((bigSep Finset.univ fun s : Fin 3 => dutyTok ER (barCell c) 0 s)
      ∗ ((bigSep Finset.univ fun s : Fin 3 => dutyTok ER (dcell c (rsS s)) 0 0) ∗ (bigSep Finset.univ fun s : Fin 3 => dutyTok ER (dcell c (rsR s)) 0 0))
      ∗ ((bigSep Finset.univ fun s : Fin 3 => dutyTok ER (dcell c (agS s)) 0 0) ∗ (bigSep Finset.univ fun s : Fin 3 => dutyTok ER (dcell c (agR s)) 0 0))) := by
  have h : (bigSep Finset.univ fun j : Fin 12 => bigSep Finset.univ fun s : Fin 3 => (dutyTok ER (dcell c j) 0 s : sProp 𝕄))
      ⊢ bigSep Finset.univ fun j : Fin 12 => dutyTok ER (dcell c j) 0 0 := bigSep_mono fun j _ => duty_first _
  unfold toks
  rw [bigSep_cells]
  refine (sep_mono_right h).trans ?_
  rw [bigSep_fin12, bigSep_fin3 (fun s => dutyTok ER (dcell c (rsS s)) 0 0), bigSep_fin3 (fun s => dutyTok ER (dcell c (rsR s)) 0 0),
    bigSep_fin3 (fun s => dutyTok ER (dcell c (agS s)) 0 0), bigSep_fin3 (fun s => dutyTok ER (dcell c (agR s)) 0 0)]
  iintro ⟨HB, H0, H1, H2, H3, H4, H5, H6, H7, H8, H9, H10, H11⟩
  isplitl [HB]; · iexact HB
  isplitl [H0 H1 H2 H3 H4 H5]
  · isplitl [H0 H1 H2]
    · isplitl [H2]; · iexact H2
      isplitl [H1]; · iexact H1
      iexact H0
    · isplitl [H3]; · iexact H3
      isplitl [H4]; · iexact H4
      iexact H5
  · isplitl [H6 H7 H8]
    · isplitl [H8]; · iexact H8
      isplitl [H7]; · iexact H7
      iexact H6
    · isplitl [H9]; · iexact H9
      isplitl [H10]; · iexact H10
      iexact H11

omit [FloatOps F] in
theorem toks_deal (Φ : Dev nD → Fin 3 → sProp 𝕄) (f : Dev nD → Fin 3 → Dev nD)
    (hf : ∀ (Ψ : Dev nD → sProp 𝕄) s, bigSep Finset.univ Ψ = bigSep Finset.univ fun c => Ψ (f c s)) :
    (bigSep Finset.univ fun c : Dev nD => bigSep Finset.univ fun s : Fin 3 => Φ c s)
      = bigSep Finset.univ fun c : Dev nD => bigSep Finset.univ fun s : Fin 3 => Φ (f c s) s := by
  simp only [bigSep_fin3, bigSep_sep']
  rw [hf (fun c => Φ c 0) 0, hf (fun c => Φ c 1) 1, hf (fun c => Φ c 2) 2]

omit [FloatOps F] in
/-- Every device's own tokens, dealt to the devices that pay with them. -/
theorem toks_around : (bigSep Finset.univ fun c : Dev nD => (toks c : sProp 𝕄)) ⊢ bigSep Finset.univ fun c : Dev nD => payToks c := by
  refine (bigSep_mono fun c _ => toks_used c).trans ?_
  unfold payToks
  simp only [bigSep_sep']
  rw [toks_deal (fun c s => dutyTok ER (barCell c) 0 s) src around_src, toks_deal (fun c s => dutyTok ER (dcell c (rsR s)) 0 0) dst around_dst,
    toks_deal (fun c s => dutyTok ER (dcell c (agR s)) 0 0) dst around_dst]
  exact fun _ h => h

theorem ghost_intro (K : Dev nD × Fin 13 → ℕ) (c : Dev nD) : iprop(records m ρ K ∗ (atAll c 0 ∗ payToks c)) ⊢ G' m ρ c := by
  unfold G' ghost
  iintro H
  iexists K
  iexact H

theorem regroup :
    (bigSep Finset.univ fun c : Dev nD => iprop((bigSep Finset.univ fun k : Fin 13 => iprop(∃ κ : ℕ, cellInv ER (arRd m ρ) κ (kcell (c, k))))
          ∗ (bigSep Finset.univ fun k : Fin 13 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 13 => iprop(∃ κ : ℕ, cellInv ER (arRd m ρ) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (arRd m ρ) κ (kcell ck) : sProp 𝕄))) $$ HI
  icases HK with ⟨%K, #HI⟩
  ihave Htk := (toks_around (F := F)) $$ Htok
  iapply (BI.bigSep_with_persistent (R := records m ρ K) (Φ := fun c => iprop(atAll c 0 ∗ payToks c)) fun c _ => ghost_intro m ρ K c)
  isplitr
  · unfold records; isplitl; · iexact HI
    iexact HR
  · rw [bigSep_sep']
    isplitl [Hat]; · iexact Hat
    iexact Htk

/-- The step over all the devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit the launch deals -/

omit [FloatOps F] in
theorem cred_bar (c : Dev nD) (s : Fin 3) : (Pipeline.launchCred (fun d => barO d s) c : sProp 𝕄) ⊢ cred (tallyAt (barCell c) () 1) :=
  Pipeline.launchCred_tallyAt (SemLoc.reg barS) (fun d => src d s) (fun d => dst d s) (fun d => src_dst d s) (fun d => dst_src d s) () 1 c
omit [FloatOps F] in
theorem cred_rs (c : Dev nD) (s : Fin 3) : (Pipeline.launchCred (fun d => rsO d s) c : sProp 𝕄) ⊢ cred (tallyAt (dcell c (rsR s)) () N) :=
  Pipeline.launchCred_tallyAt (osem (rsR s)) (fun d => dst d s) (fun d => src d s) (fun d => dst_src d s) (fun d => src_dst d s) () N c
omit [FloatOps F] in
theorem cred_ag (c : Dev nD) (s : Fin 3) : (Pipeline.launchCred (fun d => agO d s) c : sProp 𝕄) ⊢ cred (tallyAt (dcell c (agR s)) () N) :=
  Pipeline.launchCred_tallyAt (osem (agR s)) (fun d => dst d s) (fun d => src d s) (fun d => dst_src d s) (fun d => src_dst d s) () N c

omit [FloatOps F] in
theorem cred_three (c : Dev nD) : (iprop(cred (tallyAt (barCell c) () 1) ∗ cred (tallyAt (barCell c) () 1) ∗ cred (tallyAt (barCell c) () 1)) : sProp 𝕄)
    ⊢ cred (tallyAt (barCell c) () 3) := by
  rw [show (tallyAt (barCell c) () 3 : CellTallies nD τ sig Unit) = tallyAt (barCell c) () 1 + (tallyAt (barCell c) () 1 + tallyAt (barCell c) () 1) by
    rw [tallyAt_add, tallyAt_add]]
  exact (sep_mono_right (cred_add _ _).2).trans (cred_add _ _).2

omit [FloatOps F] in
theorem launch_creds (c : Dev nD) : (Pipeline.launchCred O₀ c : sProp 𝕄) ⊢ creds c := by
  rw [show (O₀ : Dev nD → CellTallies nD τ sig Unit) = fun d => (((((((((0 + agO d 0) + agO d 2) + agO d 1) + rsO d 0) + rsO d 2) + rsO d 1) + barO d 2) + barO d 1) + barO d 0) from rfl]
  rw [Pipeline.launchCred_add (fun d => ((((((((0 + agO d 0) + agO d 2) + agO d 1) + rsO d 0) + rsO d 2) + rsO d 1) + barO d 2) + barO d 1)) (fun d => barO d 0),
    Pipeline.launchCred_add (fun d => (((((((0 + agO d 0) + agO d 2) + agO d 1) + rsO d 0) + rsO d 2) + rsO d 1) + barO d 2)) (fun d => barO d 1),
    Pipeline.launchCred_add (fun d => ((((((0 + agO d 0) + agO d 2) + agO d 1) + rsO d 0) + rsO d 2) + rsO d 1)) (fun d => barO d 2),
    Pipeline.launchCred_add (fun d => (((((0 + agO d 0) + agO d 2) + agO d 1) + rsO d 0) + rsO d 2)) (fun d => rsO d 1),
    Pipeline.launchCred_add (fun d => ((((0 + agO d 0) + agO d 2) + agO d 1) + rsO d 0)) (fun d => rsO d 2),
    Pipeline.launchCred_add (fun d => (((0 + agO d 0) + agO d 2) + agO d 1)) (fun d => rsO d 0),
    Pipeline.launchCred_add (fun d => ((0 + agO d 0) + agO d 2)) (fun d => agO d 1),
    Pipeline.launchCred_add (fun d => (0 + agO d 0)) (fun d => agO d 2),
    Pipeline.launchCred_add (fun d => 0) (fun d => agO d 0)]
  iintro ⟨⟨⟨⟨⟨⟨⟨⟨⟨-, A0⟩, A2⟩, A1⟩, R0⟩, R2⟩, R1⟩, B2⟩, B1⟩, B0⟩
  unfold creds
  isplitl [B0 B1 B2]
  · iapply (cred_three (F := F) c)
    isplitl [B0]; · iapply (cred_bar (F := F) c 0); iexact B0
    isplitl [B1]; · iapply (cred_bar (F := F) c 1); iexact B1
    iapply (cred_bar (F := F) c 2); iexact B2
  isplitl [R0 R1 R2]
  · isplitl [R0]; · iapply (cred_rs (F := F) c 0); iexact R0
    isplitl [R1]; · iapply (cred_rs (F := F) c 1); iexact R1
    iapply (cred_rs (F := F) c 2); iexact R2
  · isplitl [A0]; · iapply (cred_ag (F := F) c 0); iexact A0
    isplitl [A1]; · iapply (cred_ag (F := F) c 1); iexact A1
    iapply (cred_ag (F := F) c 2); iexact A2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [sems0_eq]
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_of c _ (k := 0) (by fin_cases w <;> fin_cases s <;> exact le_of_eq rfl) (by
      rcases t with ⟨_ | _, ht⟩
      · exact above_O₀ c
      · exact above_zero 0)

/-! ## The run -/

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every fair execution of the program on the four devices
    ends, every window's array at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ar m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are what they were, -/
theorem finalA_dy (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Ar

end
-- ==== Proof.KernelIdealArray.lean ====
/-
What the arrays hold: the operands a device stages are its argument arrays, and its result array ends with what the
kernel's body leaves in the result's buffer.
-/
module

public import proofs.«01_k».proof.Proof.KernelIdealLaunch
public import Idealize.ShloMosaic.Lib.Pipeline.Value

@[expose] public section

noncomputable section

namespace Cert.KernelIdeal.Ar

open Cert.KernelIdeal Cert.KernelIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The staged left operand is the device's first argument array; -/
theorem dyB_eq (c : Dev nD) : dyB m ρ c = m ((c : Thread nD τ).loc main_arg0) := by
  have hz' : (fun a => win0_0.index t0_0 a * main_arg0.ty.shape.size a) = fun _ => 0 := funext fun a => by fin_cases a <;> decide
  exact Memref.read_access_unit_zero (Elt F) main_arg0 hz' (fun a => by rw [congrFun hz' a]; simp) (m ((c : Thread nD τ).loc main_arg0))
/-- the staged right operand is its second. -/
theorem wB_eq (c : Dev nD) : wB m ρ c = m ((c : Thread nD τ).loc main_arg1) := by
  have hz' : (fun a => win0_1.index t0_0 a * main_arg1.ty.shape.size a) = fun _ => 0 := funext fun a => by fin_cases a <;> decide
  exact Memref.read_access_unit_zero (Elt F) main_arg1 hz' (fun a => by rw [congrFun hz' a]; simp) (m ((c : Thread nD τ).loc main_arg1))

/-- The result window's one block is the whole array. -/
theorem read_result (c : Dev nD) (f : Buf (Elt F) ((c : Thread nD τ).loc main_v1)) : (win0_2.blk t0_0).view.read (Elt F) f = f := by
  have hz' : (fun a => win0_2.index t0_0 a * main_v1.ty.shape.size a) = fun _ => 0 := funext fun a => by fin_cases a <;> decide
  exact Memref.read_access_unit_zero (Elt F) main_v1 hz' (fun a => by rw [congrFun hz' a]; simp) f

/-- What is written back is the whole buffer. -/
theorem cut_result (c : Dev nD) (f : Buf (Elt F) ((c : Thread nD τ).loc main_v1)) : (cfg0.win 2).cut (grid0.coords t0_0) f = f := rfl
theorem after_out (c : Dev nD) (t : Fin cfg0.N) : (dats m ρ 0 c).after (2 : Fin 3) t = outAt m ρ c := by
  dsimp only [dats]
theorem flushed_out (c : Dev nD) : (dats m ρ 0 c).flushed (2 : Fin 3) t0_0 = outAt m ρ c := by
  show (cfg0.win 2).cut (grid0.coords t0_0) ((dats m ρ 0 c).after (2 : Fin 3) t0_0) = _
  rw [after_out]
  exact cut_result c _

/-- The result array ends holding what the body leaves in the result's buffer. -/
theorem finalA_out (c : Dev nD) : finalA m ρ c (2 : Fin 3) = outAt m ρ c :=
  (dats m ρ 0 c).arrAt_eq_of_cover (2 : Fin 3) (outAt m ρ c)
    (fun t _ => by
      obtain rfl : t = t0_0 := fin_N0 t
      exact (flushed_out m ρ c).trans (read_result c (outAt m ρ c)).symm)
    (fun i => ⟨t0_0, flush0_2 t0_0, by
      show i ∈ ((View.whole main_v1).slice (win0_2.rect t0_0)).set
      rw [View.set_slice_whole, Rect.mem_set_unit]
      intro a
      have hi := (i a).isLt
      have h0 : win0_2.index t0_0 a * win0_2.size a = 0 := by fin_cases a <;> decide
      have h1 : win0_2.xsize (grid0.coords t0_0) a = main_v1.ty.shape.size a := by fin_cases a <;> decide
      exact ⟨by show win0_2.index t0_0 a * win0_2.size a ≤ _; rw [h0]; exact Nat.zero_le _,
        by show _ < win0_2.index t0_0 a * win0_2.size a + win0_2.xsize (grid0.coords t0_0) a; rw [h0, h1, Nat.zero_add]; exact hi⟩⟩)

/-- The run read: every device's result array at `outAt`, its arguments unchanged, every semaphore at zero. -/
theorem run_read : θ_run defs (onTc (τ := τ) (main (F := F))) ⟨m, fun _ => 0, ρ⟩ fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono
    (fun _ h => ⟨fun c => ⟨(h.1 c (2 : Fin 3)).trans (finalA_out m ρ c), (h.1 c (0 : Fin 3)).trans (finalA_dy m ρ c),
      (h.1 c (1 : Fin 3)).trans (finalA_w m ρ c)⟩, h.2⟩)
    (run_main m ρ)

end Cert.KernelIdeal.Ar

end
-- ==== Proof.KernelIdealValue.lean ====
/-
The kernel's result over the extended reals: on every device, each entry of the result is the sum over the four
devices of the product of that device's operand rows.
-/
module

public import proofs.«01_k».proof.Proof.KernelIdealProto
public import Idealize.ShloMosaic.Lib.Pipeline.Value
public import Idealize.ShloMosaic.Lib.MatmulPlain
public import Idealize.ShloMosaic.PureOps.Ideal

@[expose] public section

noncomputable section

namespace Cert.KernelIdeal.Ar

open Cert.KernelIdeal Cert.KernelIdeal.Gen

open Idealize.ShloMosaic Idealize.ShloMosaic.TcCoe Idealize.ShloMosaic.ValueIdx

/-! ## Rows replaced, slots read: at any float values -/

section Layout
variable {F : FTy → Type} [FloatOps F]

omit [FloatOps F] in
/-- Inside the replaced rows the array has the new contents; -/
theorem putRow_in (f : (cc0_stg2_0 : Ref sig .tc).ty.Contents (Elt F)) (t : Dev nD) (v : Vec F S128x512 .f32) (x : S128x512.Idx) :
    putRow f t v ((rowR t).emb x) = v x :=
  View.write_emb_of_mem (v := ((outM : Memref sig .tc .vmem S512x512 .f32).access (rowR t) : View sig .tc _ _ _)) f v (Finset.mem_univ x)
omit [FloatOps F] in
/-- in the rows of another block it is as before. -/
theorem putRow_out (f : (cc0_stg2_0 : Ref sig .tc).ty.Contents (Elt F)) (t t' : Dev nD) (h : t' ≠ t) (v : Vec F S128x512 .f32) (x : S128x512.Idx) :
    putRow f t v ((rowR t').emb x) = f ((rowR t').emb x) := by
  refine View.write_of_not_mem (v := ((outM : Memref sig .tc .vmem S512x512 .f32).access (rowR t) : View sig .tc _ _ _)) f v Finset.univ ?_
  rw [View.setOn_univ]
  intro hm
  have h0 : (rowR t').emb x ∈ (rowR t').set :=
    (View.set_slice_whole cc0_stg2_0 (rowR t')) ▸ View.emb_mem_set ((outM : Memref sig .tc .vmem S512x512 .f32).access (rowR t') : View sig .tc _ _ _) x
  have h1 : (rowR t').emb x ∈ (rowR t).set := (View.set_slice_whole cc0_stg2_0 (rowR t)) ▸ hm
  exact Finset.disjoint_left.mp (row_disj t' t h) h0 h1

omit [FloatOps F] in
/-- A slot loaded and reshaped to a row block reads the slots' buffer at the slot's number. -/
theorem rs_slot_apply (f : (cc0_scratch1 : Ref sig .tc).ty.Contents (Elt F)) (s : Fin 3) (x : S128x512.Idx) :
    shapeCast S128x512 (rsSlotV f s) shapeCasts_S1x128x512_S128x512 x = f (ix3 s (x 0) (x 1)) :=
  congrArg f (slotR_emb s x)
omit [FloatOps F] in
theorem ag_slot_apply (f : (cc0_scratch3 : Ref sig .tc).ty.Contents (Elt F)) (s : Fin 3) (x : S128x512.Idx) :
    shapeCast S128x512 (agSlotV f s) shapeCasts_S1x128x512_S128x512 x = f (ix3 s (x 0) (x 1)) :=
  congrArg f (slotR_emb s x)

/-- Every index of the result is in one block's rows. -/
theorem in_row (i : S512x512.Idx) : ∃ (t : Dev nD) (x : S128x512.Idx), (rowR t).emb x = i := by
  have h0 : (i 0).val < 512 := (i 0).isLt
  refine ⟨⟨(i 0).val / 128, by show _ < 4; omega⟩, ix2 ⟨(i 0).val % 128, Nat.mod_lt _ (by decide)⟩ (i 1), ?_⟩
  funext a
  fin_cases a <;> refine Fin.ext ?_
  · show 128 * ((i 0).val / 128) + 1 * ((i 0).val % 128) = (i 0).val
    omega
  · show 0 + 1 * (i 1).val = (i 1).val
    omega

/-- A device and the three that fill its slots are all four. -/
theorem all_four (c t : Dev nD) : t = c ∨ t = src c 0 ∨ t = src c 1 ∨ t = src c 2 := by revert c t; decide
theorem src_ne (c : Dev nD) (s : Fin 3) : src c s ≠ c := by revert c s; decide
theorem src_ne_src (c : Dev nD) (s s' : Fin 3) (h : s ≠ s') : src c s ≠ src c s' := by revert c s s'; decide

/-- The result in the rows of the device's own block is its sum, in the rows of another block the sum gathered from
    that block's device. -/
theorem outAt_own (m : (ℓ : Loc nD τ sig) → Buf (Elt F) ℓ) (ρ : Dev nD → PrngReg) (c : Dev nD) (x : S128x512.Idx) :
    outAt m ρ c ((rowR c).emb x) = acc m ρ c x := by
  unfold outAt
  rw [putRow_out _ _ _ (src_ne c 0).symm, putRow_out _ _ _ (src_ne c 2).symm, putRow_out _ _ _ (src_ne c 1).symm, putRow_in]
theorem outAt_src (m : (ℓ : Loc nD τ sig) → Buf (Elt F) ℓ) (ρ : Dev nD → PrngReg) (c : Dev nD) (s : Fin 3) (x : S128x512.Idx) :
    outAt m ρ c ((rowR (src c s)).emb x) = FloatOps.extf .f32 bitsLt_bf16_f32 (agSend m ρ (src c s) x) := by
  have hx : ix2 (x 0) (x 1) = x := (eq_ix2 x).symm
  have key : ∀ s : Fin 3, (extf .f32 (shapeCast S128x512 (agSlotV (agBuf m ρ c) s) shapeCasts_S1x128x512_S128x512) bitsLt_bf16_f32 : FVec F S128x512 .f32) x
      = FloatOps.extf .f32 bitsLt_bf16_f32 (agSend m ρ (src c s) x) := fun s => by
    show FloatOps.extf .f32 bitsLt_bf16_f32 (shapeCast S128x512 (agSlotV (agBuf m ρ c) s) shapeCasts_S1x128x512_S128x512 x) = _
    rw [ag_slot_apply]
    exact congrArg (fun y : S128x512.Idx => FloatOps.extf .f32 bitsLt_bf16_f32 (agSend m ρ (src c s) y)) hx
  unfold outAt
  fin_cases s
  · exact (putRow_in _ _ _ _).trans (key 0)
  · refine (putRow_out _ _ _ (src_ne_src c 1 0 (by decide)) _ _).trans ((putRow_out _ _ _ (src_ne_src c 1 2 (by decide)) _ _).trans ?_)
    exact (putRow_in _ _ _ _).trans (key 1)
  · refine (putRow_out _ _ _ (src_ne_src c 2 0 (by decide)) _ _).trans ?_
    exact (putRow_in _ _ _ _).trans (key 2)
end Layout

/-! ## Over the extended reals -/

variable (m : (ℓ : Loc nD τ sig) → Buf (Elt Ideal) ℓ) (ρ : Dev nD → PrngReg)

/-- The product of row `i 0` of one 512 × 2048 matrix and row `i 1` of another. -/
def rowDot (x w : S512x2048.Idx → EReal) (i : S512x512.Idx) : EReal := ∑ k : Fin 2048, x (ix2 (i 0) k) * w (ix2 (i 1) k)
/-- Entry `i` of the product of device `d`'s operands. -/
def P (d : Dev nD) (i : S512x512.Idx) : EReal := rowDot (dyB m ρ d) (wB m ρ d) i

theorem prod_apply (d : Dev nD) (i : S512x512.Idx) : prod m ρ d i = P m ρ d i := by
  obtain ⟨r, n, rfl⟩ : ∃ (r : Fin 512) (n : Fin 512), i = ix2 r n := ⟨i 0, i 1, eq_ix2 i⟩
  unfold prod k0_pay1
  rw [shapeCast_self, shapeCast_self]
  refine (Ideal.matmul_transposedRhs_apply none _ _ _ r n).trans ?_
  show Ideal.ofBits .f32 0x00000000#32 + _ = _
  rw [Ideal.ofBits_zero_f32, zero_add]
  rfl
theorem part_apply (d : Dev nD) (i : S512x512.Idx) : part m ρ d i = P m ρ d i := by
  unfold part k0_pay2
  rw [shapeCast_self]
  exact prod_apply m ρ d i

/-- A sum of one term for a device and one for each that fills its slots is the sum over all devices. -/
theorem sum_four (g : Dev nD → EReal) (c : Dev nD) : g c + g (src c 0) + g (src c 1) + g (src c 2) = ∑ d : Dev nD, g d := by
  have h : ∑ d : Dev nD, g d = g 0 + g 1 + g 2 + g 3 := Fin.sum_univ_four g
  rw [h]
  fin_cases c
  · rfl
  · show g 1 + g 2 + g 3 + g 0 = _
    abel
  · show g 2 + g 3 + g 0 + g 1 = _
    abel
  · show g 3 + g 0 + g 1 + g 2 = _
    abel

theorem acc_apply (c : Dev nD) (x : S128x512.Idx) : acc m ρ c x = (∑ d : Dev nD, P m ρ d ((rowR c).emb x) : EReal) := by
  have hx : ix2 (x 0) (x 1) = x := (eq_ix2 x).symm
  have slot : ∀ s : Fin 3, shapeCast S128x512 (rsSlotV (rsBuf m ρ c) s) shapeCasts_S1x128x512_S128x512 x = P m ρ (src c s) ((rowR c).emb x) := fun s => by
    rw [rs_slot_apply]
    exact (congrArg (fun y : S128x512.Idx => part m ρ (src c s) ((rowR c).emb y)) hx).trans (part_apply m ρ (src c s) _)
  rw [← sum_four (fun d => P m ρ d ((rowR c).emb x)) c, ← slot 0, ← slot 1, ← slot 2, ← prod_apply]
  unfold acc k0_pay3
  rw [shapeCast_self]
  rfl
theorem agSend_apply (c : Dev nD) (x : S128x512.Idx) : agSend m ρ c x = (∑ d : Dev nD, P m ρ d ((rowR c).emb x) : EReal) := by
  refine Eq.trans ?_ (acc_apply m ρ c x)
  unfold agSend k0_pay4
  rw [shapeCast_self]
  rfl

/-- Every entry of every device's result is the sum over the devices of the products of their operands. -/
theorem outAt_apply (c : Dev nD) (i : S512x512.Idx) : outAt m ρ c i = (∑ d : Dev nD, P m ρ d i : EReal) := by
  obtain ⟨t, x, rfl⟩ := in_row i
  have other : ∀ s : Fin 3, outAt m ρ c ((rowR (src c s)).emb x) = (∑ d : Dev nD, P m ρ d ((rowR (src c s)).emb x) : EReal) := fun s =>
    (outAt_src m ρ c s x).trans (agSend_apply m ρ (src c s) x)
  rcases all_four c t with rfl | rfl | rfl | rfl
  · exact (outAt_own m ρ t x).trans (acc_apply m ρ t x)
  · exact other 0
  · exact other 1
  · exact other 2

end Cert.KernelIdeal.Ar

end
-- ==== Proof.RefValue.lean ====
/-
What the reference computes over the extended reals: each entry of its result is the sum, over all 8192 columns, of
the products of the two arguments' rows.
-/
module

public import proofs.«01_k».proof.Proof.Gen.ReferenceIdeal.Run
public import Idealize.ShloMosaic.Lib.StackMember
public import Idealize.ShloMosaic.Lib.ValueLayout
public import Idealize.ShloMosaic.Lib.Quiescent
public import Idealize.ShloMosaic.PureOps.Ideal

@[expose] public section

noncomputable section

namespace Cert.ReferenceIdeal.Value

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reference's result: entry `(r, n)` is the product of row `r` of the first argument and row `n` of the second. -/
def result (x w : S512x8192.Idx → EReal) : S512x512.Idx → EReal :=
  fun i => ∑ k : Fin 8192, x (ix2 (i 0) k) * w (ix2 (i 1) k)

/-- The reference's operations compute it. -/
theorem dot_eq (x w : FVec Ideal S512x8192 .bf16) :
    Host.dotGeneral dot_S512x8192_S8192x512_S512x512_1_0_0_1_n_n none (extf .f32 x bitsLt_bf16_f32)
      (transpose S8192x512 [1, 0] (extf .f32 w bitsLt_bf16_f32) transposes_S512x8192_S8192x512_1_0) = result x w := by
  funext i
  obtain ⟨r, n, rfl⟩ : ∃ (r : Fin 512) (n : Fin 512), i = ix2 r n := ⟨i 0, i 1, eq_ix2 i⟩
  refine (StackMember.dotGeneral_plain_apply none _ _ r n).trans (Finset.sum_congr rfl fun k _ => ?_)
  rw [transpose_ix2_apply]
  rfl

/-- The reference's run: its result array at `result` of its arguments, the arguments unchanged, no semaphore raised. -/
theorem run_read : θ_run defs (onTc (τ := τ) (main (F := Ideal))) ⟨m, fun _ => 0, ρ⟩ fun r =>
    (∀ c : Dev nD, r.2.mem ((c : Thread nD τ).loc main_v3) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono
    (fun r h => ⟨fun c => ⟨(h c).1.trans (dot_eq _ _), (h c).2⟩, sem_eq_zero_of_no_sems (by decide) r.2⟩)
    (run m ρ)

end Cert.ReferenceIdeal.Value

end
-- ==== Proof.Equation.lean ====
/-
The equation: a sum over 8192 columns is the sum over four devices of the sums over the 2048 columns each holds, so
the kernel's result on every device is the reference's.
-/
module

public import proofs.«01_k».proof.Proof.KernelIdealArray
public import proofs.«01_k».proof.Proof.KernelIdealValue
public import proofs.«01_k».proof.Proof.RefValue
public import Idealize.ShloMosaic.Lib.Layout

@[expose] public section

noncomputable section

namespace Cert.Equation

open Idealize.ShloMosaic Idealize.ShloMosaic.TcCoe Idealize.ShloMosaic.ValueIdx

/-- The whole arrays' shape and the shape of a device's part. -/
abbrev SW : Shape := ⟨2, ![512, 8192]⟩
abbrev SP : Shape := ⟨2, ![512, 2048]⟩

/-- Column `k` of device `d`'s part is column `2048 d + k` of the whole. -/
def col (d : Fin 4) (k : Fin 2048) : Fin 8192 := ⟨d.val * 2048 + k.val, by have := d.isLt; have := k.isLt; omega⟩

/-- A sum over all columns is the sum over the devices of the sums over their columns. -/
theorem sum_cols (f : Fin 8192 → EReal) : ∑ k : Fin 8192, f k = ∑ d : Fin 4, ∑ k : Fin 2048, f (col d k) := by
  rw [← Fintype.sum_prod_type' (fun (d : Fin 4) (k : Fin 2048) => f (col d k))]
  refine (Equiv.sum_comp (finProdFinEquiv (m := 4) (n := 2048)) f).symm.trans (Finset.sum_congr rfl fun p _ => congrArg f (Fin.ext ?_))
  show p.2.val + 2048 * p.1.val = p.1.val * 2048 + p.2.val
  omega

/-- A device's part of a whole array, read at a row and a column. -/
theorem part_apply (d : Fin 4) (v : SW.Idx → EReal) (r : Fin 512) (k : Fin 2048) :
    Layout.block SP SW 1 4 d v (by decide) (ix2 r k) = v (ix2 r (col d k)) :=
  congrArg v (funext fun a => match a with
    | ⟨0, _⟩ => Fin.ext rfl
    | ⟨1, _⟩ => Fin.ext rfl)

/-- The sum over the devices of the products of their parts is the product of the whole arrays. -/
theorem sum_parts (x w : SW.Idx → EReal) :
    (fun i => ∑ d : Fin 4, Cert.KernelIdeal.Ar.rowDot (Layout.block SP SW 1 4 d x) (Layout.block SP SW 1 4 d w) i)
      = Cert.ReferenceIdeal.Value.result x w := by
  funext i
  refine Eq.trans ?_ (sum_cols (fun k => x (ix2 (i 0) k) * w (ix2 (i 1) k))).symm
  refine Finset.sum_congr rfl fun d _ => Finset.sum_congr rfl fun k _ => ?_
  exact congrArg₂ (· * ·) (part_apply d x (i 0) k) (part_apply d w (i 1) k)

open Cert.KernelIdeal in
/-- From parts of the whole arrays `x` and `w`, every device's result is the product of the whole arrays. -/
theorem out_eq (m : (ℓ : Loc nD τ sig) → Buf (Elt Ideal) ℓ) (ρ : Dev nD → PrngReg) (x w : SW.Idx → EReal)
    (hx : ∀ d : Dev nD, m ((d : Thread nD τ).loc main_arg0) = Layout.block SP SW 1 4 d x)
    (hw : ∀ d : Dev nD, m ((d : Thread nD τ).loc main_arg1) = Layout.block SP SW 1 4 d w) (c : Dev nD) :
    Ar.outAt m ρ c = Cert.ReferenceIdeal.Value.result x w := by
  rw [← sum_parts]
  funext i
  refine (Ar.outAt_apply m ρ c i).trans (Finset.sum_congr (M := EReal) rfl fun d _ => ?_)
  exact congrArg₂ (fun a b => Ar.rowDot a b i) ((Ar.dyB_eq m ρ d).trans (hx d)) ((Ar.wB_eq m ρ d).trans (hw d))

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelArray
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The compiled kernel runs, its arguments unchanged and every semaphore back at zero: its run without the values. -/
theorem frame_kernel : quiescent_Kernel := fun m g _ =>
  (θ_run Cert.Kernel.defs _ _).mono (fun _ h => ⟨fun c => (h.1 c).2, h.2⟩) (Cert.Kernel.Ar.run_read m g)
/-- So does the idealized kernel, -/
theorem frame_kernelIdeal : quiescent_KernelIdeal := fun m g _ =>
  (θ_run Cert.KernelIdeal.defs _ _).mono (fun _ h => ⟨fun c => (h.1 c).2, h.2⟩) (Cert.KernelIdeal.Ar.run_read m g)
/-- and the reference. -/
theorem frame_referenceIdeal : quiescent_ReferenceIdeal := fun m g _ =>
  (θ_run Cert.ReferenceIdeal.defs _ _).mono (fun _ h => ⟨fun c => (h.1 c).2, h.2⟩) (Cert.ReferenceIdeal.Value.run_read m g)

/-- From parts of the reference's arguments, every device's result is the reference's, over the extended reals. -/
theorem values : algebraic_KernelIdeal_ReferenceIdeal := fun m g m' g' _ hm =>
  ⟨Cert.ReferenceIdeal.Value.result _ _,
    (θ_run Cert.KernelIdeal.defs _ _).mono
      (fun _ h c => ⟨(h.1 c).1.trans (Cert.Equation.out_eq m g _ _ (fun d => (hm d).1) (fun d => (hm d).2) c), (h.1 c).2⟩)
      (Cert.KernelIdeal.Ar.run_read m g),
    (θ_run Cert.ReferenceIdeal.defs _ _).mono (fun _ h => h.1 0) (Cert.ReferenceIdeal.Value.run_read m' g')⟩

theorem claim : Cert.Claim :=
  ⟨Cert.Kernel.Gen.facts, Cert.KernelIdeal.Gen.facts, Cert.ReferenceIdeal.Gen.facts,
    frame_kernel, frame_kernelIdeal, frame_referenceIdeal, trivial, values⟩

end Cert.Proof

end
